-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Codes (m : (ℓ : Loc Cert.Codes.nD Cert.Codes.τ Cert.Codes.sig) → Buf (Elt Bits) ℓ) : Prop :=
  True

def Pre_Codes_rows_ascend [hPre_rows_ascend : Cert.Pre_rows_ascend.Facts] (m : (ℓ : Loc Cert.Codes.nD Cert.Codes.τ Cert.Codes.sig) → Buf (Elt Bits) ℓ) : Prop :=
  ∀ c : Dev Cert.Codes.nD,
    (Cert.Pre_rows_ascend.fn (F := Bits) (m ((c.tc : Thread Cert.Codes.nD Cert.Codes.τ).loc Cert.Codes.main_arg0)) (m ((c.tc : Thread Cert.Codes.nD Cert.Codes.τ).loc Cert.Codes.main_arg1))) = (fun _ => 1#1)

def Pre_CodesReference (m : (ℓ : Loc Cert.CodesReference.nD Cert.CodesReference.τ Cert.CodesReference.sig) → Buf (Elt Bits) ℓ) : Prop :=
  True

def Pre_CodesReference_rows_ascend [hPre_rows_ascend : Cert.Pre_rows_ascend.Facts] (m : (ℓ : Loc Cert.CodesReference.nD Cert.CodesReference.τ Cert.CodesReference.sig) → Buf (Elt Bits) ℓ) : Prop :=
  ∀ c : Dev Cert.CodesReference.nD,
    (Cert.Pre_rows_ascend.fn (F := Bits) (m ((c.tc : Thread Cert.CodesReference.nD Cert.CodesReference.τ).loc Cert.CodesReference.main_arg0)) (m ((c.tc : Thread Cert.CodesReference.nD Cert.CodesReference.τ).loc Cert.CodesReference.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Codes [hCodes : Cert.Codes.Facts] : Prop :=
  ∀ (m : (ℓ : Loc Cert.Codes.nD Cert.Codes.τ Cert.Codes.sig) → Buf (Elt Bits) ℓ) (g : Dev Cert.Codes.nD → PrngReg), Pre_Codes m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_Codes_pre_rows_ascend [hCodes : Cert.Codes.Facts] [hPre_rows_ascend : Cert.Pre_rows_ascend.Facts] : Prop :=
  ∀ (m : (ℓ : Loc Cert.Codes.nD Cert.Codes.τ Cert.Codes.sig) → Buf (Elt Bits) ℓ) (g : Dev Cert.Codes.nD → PrngReg), Pre_Codes_rows_ascend m →
    θ_run (Cert.Codes.defs (F := Bits)) (onTc (τ := Cert.Codes.τ) (Cert.Codes.main (F := Bits))) ⟨m, fun _ => 0, g⟩ (fun r => (∀ c : Dev Cert.Codes.nD,
      r.2.mem ((c.tc : Thread Cert.Codes.nD Cert.Codes.τ).loc Cert.Codes.main_arg0) = m ((c.tc : Thread Cert.Codes.nD Cert.Codes.τ).loc Cert.Codes.main_arg0)
      ∧ r.2.mem ((c.tc : Thread Cert.Codes.nD Cert.Codes.τ).loc Cert.Codes.main_arg1) = m ((c.tc : Thread Cert.Codes.nD Cert.Codes.τ).loc Cert.Codes.main_arg1))
      ∧ r.2.sem = fun _ => 0)

def quiescent_CodesReference [hCodesReference : Cert.CodesReference.Facts] : Prop :=
  ∀ (m : (ℓ : Loc Cert.CodesReference.nD Cert.CodesReference.τ Cert.CodesReference.sig) → Buf (Elt Bits) ℓ) (g : Dev Cert.CodesReference.nD → PrngReg), Pre_CodesReference m →
    θ_run (Cert.CodesReference.defs (F := Bits)) (onTc (τ := Cert.CodesReference.τ) (Cert.CodesReference.main (F := Bits))) ⟨m, fun _ => 0, g⟩ (fun r => (∀ c : Dev Cert.CodesReference.nD,
      r.2.mem ((c.tc : Thread Cert.CodesReference.nD Cert.CodesReference.τ).loc Cert.CodesReference.main_arg0) = m ((c.tc : Thread Cert.CodesReference.nD Cert.CodesReference.τ).loc Cert.CodesReference.main_arg0)
      ∧ r.2.mem ((c.tc : Thread Cert.CodesReference.nD Cert.CodesReference.τ).loc Cert.CodesReference.main_arg1) = m ((c.tc : Thread Cert.CodesReference.nD Cert.CodesReference.τ).loc Cert.CodesReference.main_arg1))
      ∧ r.2.sem = fun _ => 0)

def quiescent_CodesReference_pre_rows_ascend [hCodesReference : Cert.CodesReference.Facts] [hPre_rows_ascend : Cert.Pre_rows_ascend.Facts] : Prop :=
  ∀ (m : (ℓ : Loc Cert.CodesReference.nD Cert.CodesReference.τ Cert.CodesReference.sig) → Buf (Elt Bits) ℓ) (g : Dev Cert.CodesReference.nD → PrngReg), Pre_CodesReference_rows_ascend m →
    θ_run (Cert.CodesReference.defs (F := Bits)) (onTc (τ := Cert.CodesReference.τ) (Cert.CodesReference.main (F := Bits))) ⟨m, fun _ => 0, g⟩ (fun r => (∀ c : Dev Cert.CodesReference.nD,
      r.2.mem ((c.tc : Thread Cert.CodesReference.nD Cert.CodesReference.τ).loc Cert.CodesReference.main_arg0) = m ((c.tc : Thread Cert.CodesReference.nD Cert.CodesReference.τ).loc Cert.CodesReference.main_arg0)
      ∧ r.2.mem ((c.tc : Thread Cert.CodesReference.nD Cert.CodesReference.τ).loc Cert.CodesReference.main_arg1) = m ((c.tc : Thread Cert.CodesReference.nD Cert.CodesReference.τ).loc Cert.CodesReference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v4)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v4) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81_0) = v0 c
          ∧ r.2.mem ((c.tc : Thread Cert.ReferenceIdeal.nD Cert.ReferenceIdeal.τ).loc Cert.ReferenceIdeal.main_v81_1) = v1 c
          ∧ r.2.mem ((c.tc : Thread Cert.ReferenceIdeal.nD Cert.ReferenceIdeal.τ).loc Cert.ReferenceIdeal.main_v81_2) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Codes_CodesReference_pre_rows_ascend [hCodes : Cert.Codes.Facts] [hCodesReference : Cert.CodesReference.Facts] [hPre_rows_ascend : Cert.Pre_rows_ascend.Facts] : Prop :=
  ∀ (m : (ℓ : Loc Cert.Codes.nD Cert.Codes.τ Cert.Codes.sig) → Buf (Elt Bits) ℓ) (g : Dev Cert.Codes.nD → PrngReg)
    (m' : (ℓ : Loc Cert.CodesReference.nD Cert.CodesReference.τ Cert.CodesReference.sig) → Buf (Elt Bits) ℓ) (g' : Dev Cert.CodesReference.nD → PrngReg), Pre_Codes_rows_ascend m →
    (∀ c : Dev Cert.Codes.nD,
      m' ((c.tc : Thread Cert.CodesReference.nD Cert.CodesReference.τ).loc Cert.CodesReference.main_arg0) = m ((c.tc : Thread Cert.Codes.nD Cert.Codes.τ).loc Cert.Codes.main_arg0)
      ∧ m' ((c.tc : Thread Cert.CodesReference.nD Cert.CodesReference.τ).loc Cert.CodesReference.main_arg1) = m ((c.tc : Thread Cert.Codes.nD Cert.Codes.τ).loc Cert.Codes.main_arg1)) →
    ∃ (v0 : (c : Dev Cert.Codes.nD) → Buf (Elt Bits) ((c.tc : Thread Cert.Codes.nD Cert.Codes.τ).loc Cert.Codes.main_v14)),
      θ_run (Cert.Codes.defs (F := Bits)) (onTc (τ := Cert.Codes.τ) (Cert.Codes.main (F := Bits))) ⟨m, fun _ => 0, g⟩ (fun r => ∀ c : Dev Cert.Codes.nD,
          r.2.mem ((c.tc : Thread Cert.Codes.nD Cert.Codes.τ).loc Cert.Codes.main_v14) = v0 c
          ∧ r.2.mem ((c.tc : Thread Cert.Codes.nD Cert.Codes.τ).loc Cert.Codes.main_arg0) = m ((c.tc : Thread Cert.Codes.nD Cert.Codes.τ).loc Cert.Codes.main_arg0)
          ∧ r.2.mem ((c.tc : Thread Cert.Codes.nD Cert.Codes.τ).loc Cert.Codes.main_arg1) = m ((c.tc : Thread Cert.Codes.nD Cert.Codes.τ).loc Cert.Codes.main_arg1))
      ∧ θ_run (Cert.CodesReference.defs (F := Bits)) (onTc (τ := Cert.CodesReference.τ) (Cert.CodesReference.main (F := Bits))) ⟨m', fun _ => 0, g'⟩ (fun r => ∀ c : Dev Cert.CodesReference.nD,
          r.2.mem ((c.tc : Thread Cert.CodesReference.nD Cert.CodesReference.τ).loc Cert.CodesReference.main_v13) = v0 c
          ∧ r.2.mem ((c.tc : Thread Cert.CodesReference.nD Cert.CodesReference.τ).loc Cert.CodesReference.main_arg0) = m' ((c.tc : Thread Cert.CodesReference.nD Cert.CodesReference.τ).loc Cert.CodesReference.main_arg0)
          ∧ r.2.mem ((c.tc : Thread Cert.CodesReference.nD Cert.CodesReference.τ).loc Cert.CodesReference.main_arg1) = m' ((c.tc : Thread Cert.CodesReference.nD Cert.CodesReference.τ).loc Cert.CodesReference.main_arg1))

def Claim : Prop :=
  ∃ (hKernel : Cert.Kernel.Facts) (hKernelIdeal : Cert.KernelIdeal.Facts) (hReferenceIdeal : Cert.ReferenceIdeal.Facts) (hCodes : Cert.Codes.Facts) (hCodesReference : Cert.CodesReference.Facts) (hPre_rows_ascend : Cert.Pre_rows_ascend.Facts),
    quiescent_Kernel (hKernel := hKernel)
    ∧ quiescent_KernelIdeal (hKernelIdeal := hKernelIdeal)
    ∧ quiescent_ReferenceIdeal (hReferenceIdeal := hReferenceIdeal)
    ∧ quiescent_Codes (hCodes := hCodes)
    ∧ quiescent_Codes_pre_rows_ascend (hCodes := hCodes) (hPre_rows_ascend := hPre_rows_ascend)
    ∧ quiescent_CodesReference (hCodesReference := hCodesReference)
    ∧ quiescent_CodesReference_pre_rows_ascend (hCodesReference := hCodesReference) (hPre_rows_ascend := hPre_rows_ascend)
    ∧ preserves_Kernel_KernelIdeal
    ∧ algebraic_KernelIdeal_ReferenceIdeal (hKernelIdeal := hKernelIdeal) (hReferenceIdeal := hReferenceIdeal)
    ∧ bitexact_Codes_CodesReference_pre_rows_ascend (hCodes := hCodes) (hCodesReference := hCodesReference) (hPre_rows_ascend := hPre_rows_ascend)
-- ==== Pre_rows_ascend.lean ====
abbrev S35108 : Shape := ⟨1, ![35108]⟩
abbrev S3000000x96 : Shape := ⟨2, ![3000000, 96]⟩
abbrev S1 : Shape := ⟨1, ![1]⟩
abbrev S35107 : Shape := ⟨1, ![35107]⟩
abbrev S_ : Shape := ⟨0, ![]⟩

class Facts : Prop where
  slices_S35108_S1_0 : S35108.Slices ![0] S1
  slices_S35108_S35107_0 : S35108.Slices ![0] S35107
  concatenates_S1_S35107_S35108_d0 : Shape.Concatenates [S1, S35107] S35108 0
  bcast_S_S35108 : S_.BroadcastsInDim S35108 (![] : Fin 0 → Fin S35108.rank)

variable [Facts]

def fn {F : FTy → Type} [FloatOps F] (main_arg0 : IVec S35108 32) (main_arg1 : IVec S3000000x96 8) : IVec S35108 1 :=
  let main_v0 : IVec S1 32 := (extractStridedSlice S1 ![0] · slices_S35108_S1_0) main_arg0
  let main_v1 : IVec S35107 32 := (extractStridedSlice S35107 ![0] · slices_S35108_S35107_0) main_arg0
  let main_v2 : IVec S35108 32 := (fun a b => concatenate S35108 0 [⟨S1, a⟩, ⟨S35107, b⟩] concatenates_S1_S35107_S35108_d0) main_v0 main_v1
  let main_c : IVec S_ 32 := constantI S_ 32 0#32
  let main_v3 : IVec S35108 32 := broadcastInDim S35108 ![] bcast_S_S35108 main_c
  let main_v4 : IVec S35108 1 := cmpi .sge main_arg0 main_v3
  let main_c_0 : IVec S_ 32 := constantI S_ 32 3000000#32
  let main_v5 : IVec S35108 32 := broadcastInDim S35108 ![] bcast_S_S35108 main_c_0
  let main_v6 : IVec S35108 1 := cmpi .slt main_arg0 main_v5
  let main_v7 : IVec S35108 1 := andi main_v4 main_v6
  let main_v8 : IVec S35108 1 := cmpi .sle main_v2 main_arg0
  let main_v9 : IVec S35108 1 := andi main_v7 main_v8
  main_v9
-- ==== Kernel.lean ====
abbrev S512 : Shape := ⟨1, ![512]⟩
abbrev S24x36864 : Shape := ⟨2, ![24, 36864]⟩
abbrev S48x36864 : Shape := ⟨2, ![48, 36864]⟩
abbrev S37408x128 : Shape := ⟨2, ![37408, 128]⟩
abbrev S3x36864 : Shape := ⟨2, ![3, 36864]⟩
abbrev S96x35108 : Shape := ⟨2, ![96, 35108]⟩
abbrev S1x35108 : Shape := ⟨2, ![1, 35108]⟩
abbrev S24x1024 : Shape := ⟨2, ![24, 1024]⟩
abbrev S48x1024 : Shape := ⟨2, ![48, 1024]⟩
abbrev S1024x128 : Shape := ⟨2, ![1024, 128]⟩
abbrev S32x128 : Shape := ⟨2, ![32, 128]⟩
abbrev S3x1024 : Shape := ⟨2, ![3, 1024]⟩
abbrev S96x1024 : Shape := ⟨2, ![96, 1024]⟩
abbrev S1x1024 : Shape := ⟨2, ![1, 1024]⟩
abbrev S128x1024 : Shape := ⟨2, ![128, 1024]⟩
abbrev S128x32 : Shape := ⟨2, ![128, 32]⟩
abbrev S96x32 : Shape := ⟨2, ![96, 32]⟩
abbrev S1 : Shape := ⟨1, ![1]⟩
abbrev S96x1 : Shape := ⟨2, ![96, 1]⟩
abbrev S1024 : Shape := ⟨1, ![1024]⟩
abbrev S35108x96 : Shape := ⟨2, ![35108, 96]⟩
abbrev S35108 : Shape := ⟨1, ![35108]⟩

abbrev nBuf : Space → Nat
  | .hbm => 14
  | .vmem => 19
  | .smem => 1
  | _ => 0

abbrev bufTy : (tb : Table) → Fin (tcTables nBuf tb) → BufTy
  | .hbm, ⟨0, _⟩ => ⟨S24x36864, .i32⟩
  | .hbm, ⟨1, _⟩ => ⟨S48x36864, .i32⟩
  | .hbm, ⟨2, _⟩ => ⟨S37408x128, .f32⟩
  | .hbm, ⟨3, _⟩ => ⟨S3x36864, .f32⟩
  | .hbm, ⟨4, _⟩ => ⟨S96x35108, .i8⟩
  | .hbm, ⟨5, _⟩ => ⟨S96x35108, .bf16⟩
  | .hbm, ⟨6, _⟩ => ⟨S1x35108, .f32⟩
  | .hbm, ⟨7, _⟩ => ⟨S1x35108, .f32⟩
  | .hbm, ⟨8, _⟩ => ⟨S1x35108, .f32⟩
  | .hbm, ⟨9, _⟩ => ⟨S35108x96, .i8⟩
  | .hbm, ⟨10, _⟩ => ⟨S35108, .f32⟩
  | .hbm, ⟨11, _⟩ => ⟨S35108, .f32⟩
  | .hbm, ⟨12, _⟩ => ⟨S35108x96, .bf16⟩
  | .hbm, ⟨13, _⟩ => ⟨S35108, .f32⟩
  | .local _ .vmem, ⟨0, _⟩ => ⟨S24x1024, .i32⟩
  | .local _ .vmem, ⟨1, _⟩ => ⟨S24x1024, .i32⟩
  | .local _ .vmem, ⟨2, _⟩ => ⟨S48x1024, .i32⟩
  | .local _ .vmem, ⟨3, _⟩ => ⟨S48x1024, .i32⟩
  | .local _ .vmem, ⟨4, _⟩ => ⟨S1024x128, .f32⟩
  | .local _ .vmem, ⟨5, _⟩ => ⟨S1024x128, .f32⟩
  | .local _ .vmem, ⟨6, _⟩ => ⟨S32x128, .f32⟩
  | .local _ .vmem, ⟨7, _⟩ => ⟨S3x1024, .f32⟩
  | .local _ .vmem, ⟨8, _⟩ => ⟨S3x1024, .f32⟩
  | .local _ .vmem, ⟨9, _⟩ => ⟨S96x1024, .i8⟩
  | .local _ .vmem, ⟨10, _⟩ => ⟨S96x1024, .i8⟩
  | .local _ .vmem, ⟨11, _⟩ => ⟨S96x1024, .bf16⟩
  | .local _ .vmem, ⟨12, _⟩ => ⟨S96x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .smem, ⟨0, _⟩ => ⟨S512, .i32⟩
  | _, _ => ⟨S24x36864, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![35], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1152_i32 : BitVec 32 := 1152#32
  let c0_i32 : BitVec 32 := 0#32
  let c0_i32_0 : BitVec 32 := 0#32
  ![c1152_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S24x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S48x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S3x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S512 : Shape := ⟨1, ![512]⟩
abbrev S24x36864 : Shape := ⟨2, ![24, 36864]⟩
abbrev S48x36864 : Shape := ⟨2, ![48, 36864]⟩
abbrev S37408x128 : Shape := ⟨2, ![37408, 128]⟩
abbrev S3x36864 : Shape := ⟨2, ![3, 36864]⟩
abbrev S24x35108 : Shape := ⟨2, ![24, 35108]⟩
abbrev S35108x24 : Shape := ⟨2, ![35108, 24]⟩
abbrev S35108x24x4 : Shape := ⟨3, ![35108, 24, 4]⟩
abbrev S35108x96 : Shape := ⟨2, ![35108, 96]⟩
abbrev S48x35108 : Shape := ⟨2, ![48, 35108]⟩
abbrev S35108x48 : Shape := ⟨2, ![35108, 48]⟩
abbrev S35108x48x2 : Shape := ⟨3, ![35108, 48, 2]⟩
abbrev S1x35108 : Shape := ⟨2, ![1, 35108]⟩
abbrev S35108 : Shape := ⟨1, ![35108]⟩
abbrev S35108x1x1 : Shape := ⟨3, ![35108, 1, 1]⟩
abbrev S32x16 : Shape := ⟨2, ![32, 16]⟩
abbrev S32x1 : Shape := ⟨2, ![32, 1]⟩
abbrev S1x32x1 : Shape := ⟨3, ![1, 32, 1]⟩
abbrev S35108x32x1 : Shape := ⟨3, ![35108, 32, 1]⟩
abbrev S32x96 : Shape := ⟨2, ![32, 96]⟩
abbrev S1x32x96 : Shape := ⟨3, ![1, 32, 96]⟩
abbrev S_ : Shape := ⟨0, ![]⟩
abbrev S35108x32x96 : Shape := ⟨3, ![35108, 32, 96]⟩
abbrev S35108x1 : Shape := ⟨2, ![35108, 1]⟩

abbrev nBuf : Space → Nat
  | .hbm => 118
  | .vmem => 0
  | .smem => 0
  | _ => 0

abbrev bufTy : (tb : Table) → Fin (tcTables nBuf tb) → BufTy
  | .hbm, ⟨0, _⟩ => ⟨S512, .i32⟩
  | .hbm, ⟨1, _⟩ => ⟨S24x36864, .i32⟩
  | .hbm, ⟨2, _⟩ => ⟨S48x36864, .i32⟩
  | .hbm, ⟨3, _⟩ => ⟨S37408x128, .f32⟩
  | .hbm, ⟨4, _⟩ => ⟨S3x36864, .f32⟩
  | .hbm, ⟨5, _⟩ => ⟨S24x35108, .i32⟩
  | .hbm, ⟨6, _⟩ => ⟨S35108x24, .i32⟩
  | .hbm, ⟨7, _⟩ => ⟨S35108x24x4, .i8⟩
  | .hbm, ⟨8, _⟩ => ⟨S35108x96, .i8⟩
  | .hbm, ⟨9, _⟩ => ⟨S48x35108, .i32⟩
  | .hbm, ⟨10, _⟩ => ⟨S35108x48, .i32⟩
  | .hbm, ⟨11, _⟩ => ⟨S35108x48x2, .bf16⟩
  | .hbm, ⟨12, _⟩ => ⟨S35108x96, .bf16⟩
  | .hbm, ⟨13, _⟩ => ⟨S1x35108, .f32⟩
  | .hbm, ⟨14, _⟩ => ⟨S35108, .f32⟩
  | .hbm, ⟨15, _⟩ => ⟨S1x35108, .f32⟩
  | .hbm, ⟨16, _⟩ => ⟨S35108, .f32⟩
  | .hbm, ⟨17, _⟩ => ⟨S1x35108, .f32⟩
  | .hbm, ⟨18, _⟩ => ⟨S35108, .f32⟩
  | .hbm, ⟨19, _⟩ => ⟨S35108, .i32⟩
  | .hbm, ⟨20, _⟩ => ⟨S35108x1x1, .i32⟩
  | .hbm, ⟨21, _⟩ => ⟨S32x16, .i32⟩
  | .hbm, ⟨22, _⟩ => ⟨S32x1, .i32⟩
  | .hbm, ⟨23, _⟩ => ⟨S1x32x1, .i32⟩
  | .hbm, ⟨24, _⟩ => ⟨S35108x32x1, .i32⟩
  | .hbm, ⟨25, _⟩ => ⟨S35108x32x1, .i32⟩
  | .hbm, ⟨26, _⟩ => ⟨S35108x32x1, .i1⟩
  | .hbm, ⟨27, _⟩ => ⟨S35108x96, .f32⟩
  | .hbm, ⟨28, _⟩ => ⟨S32x96, .f32⟩
  | .hbm, ⟨29, _⟩ => ⟨S1x32x96, .f32⟩
  | .hbm, ⟨30, _⟩ => ⟨S_, .f32⟩
  | .hbm, ⟨31, _⟩ => ⟨S_, .f32⟩
  | .hbm, ⟨32, _⟩ => ⟨S35108x32x96, .i1⟩
  | .hbm, ⟨33, _⟩ => ⟨S35108x32x96, .f32⟩
  | .hbm, ⟨34, _⟩ => ⟨S35108x32x96, .f32⟩
  | .hbm, ⟨35, _⟩ => ⟨S35108x32x96, .f32⟩
  | .hbm, ⟨36, _⟩ => ⟨S_, .f32⟩
  | .hbm, ⟨37, _⟩ => ⟨S35108x96, .f32⟩
  | .hbm, ⟨38, _⟩ => ⟨S35108x96, .f32⟩
  | .hbm, ⟨39, _⟩ => ⟨S35108x96, .i32⟩
  | .hbm, ⟨40, _⟩ => ⟨S35108x96, .f32⟩
  | .hbm, ⟨41, _⟩ => ⟨S35108x1, .f32⟩
  | .hbm, ⟨42, _⟩ => ⟨S35108x96, .f32⟩
  | .hbm, ⟨43, _⟩ => ⟨S35108x96, .f32⟩
  | .hbm, ⟨44, _⟩ => ⟨S35108x1, .f32⟩
  | .hbm, ⟨45, _⟩ => ⟨S35108x96, .f32⟩
  | .hbm, ⟨46, _⟩ => ⟨S35108x96, .f32⟩
  | .hbm, ⟨47, _⟩ => ⟨S35108x96, .f32⟩
  | .hbm, ⟨48, _⟩ => ⟨S_, .f32⟩
  | .hbm, ⟨49, _⟩ => ⟨S35108x96, .f32⟩
  | .hbm, ⟨50, _⟩ => ⟨S35108x96, .f32⟩
  | .hbm, ⟨51, _⟩ => ⟨S_, .f32⟩
  | .hbm, ⟨52, _⟩ => ⟨S35108x96, .f32⟩
  | .hbm, ⟨53, _⟩ => ⟨S35108x96, .f32⟩
  | .hbm, ⟨54, _⟩ => ⟨S35108x96, .f32⟩
  | .hbm, ⟨55, _⟩ => ⟨S_, .f32⟩
  | .hbm, ⟨56, _⟩ => ⟨S35108, .f32⟩
  | .hbm, ⟨57, _⟩ => ⟨S35108, .f32⟩
  | .hbm, ⟨58, _⟩ => ⟨S35108x96, .f32⟩
  | .hbm, ⟨59, _⟩ => ⟨S_, .f32⟩
  | .hbm, ⟨60, _⟩ => ⟨S35108, .f32⟩
  | .hbm, ⟨61, _⟩ => ⟨S_, .f32⟩
  | .hbm, ⟨62, _⟩ => ⟨S35108, .f32⟩
  | .hbm, ⟨63, _⟩ => ⟨S35108, .f32⟩
  | .hbm, ⟨64, _⟩ => ⟨S_, .f32⟩
  | .hbm, ⟨65, _⟩ => ⟨S35108, .f32⟩
  | .hbm, ⟨66, _⟩ => ⟨S35108, .f32⟩
  | .hbm, ⟨67, _⟩ => ⟨S35108, .f32⟩
  | .hbm, ⟨68, _⟩ => ⟨S_, .f32⟩
  | .hbm, ⟨69, _⟩ => ⟨S35108x96, .f32⟩
  | .hbm, ⟨70, _⟩ => ⟨S35108x96, .f32⟩
  | .hbm, ⟨71, _⟩ => ⟨S_, .f32⟩
  | .hbm, ⟨72, _⟩ => ⟨S35108, .f32⟩
  | .hbm, ⟨73, _⟩ => ⟨S35108, .f32⟩
  | .hbm, ⟨74, _⟩ => ⟨S_, .f32⟩
  | .hbm, ⟨75, _⟩ => ⟨S35108x96, .f32⟩
  | .hbm, ⟨76, _⟩ => ⟨S35108x96, .f32⟩
  | .hbm, ⟨77, _⟩ => ⟨S35108, .f32⟩
  | .hbm, ⟨78, _⟩ => ⟨S_, .f32⟩
  | .hbm, ⟨79, _⟩ => ⟨S35108, .f32⟩
  | .hbm, ⟨80, _⟩ => ⟨S35108, .f32⟩
  | .hbm, ⟨81, _⟩ => ⟨S35108x1, .f32⟩
  | .hbm, ⟨82, _⟩ => ⟨S35108x96, .f32⟩
  | .hbm, ⟨83, _⟩ => ⟨S35108x96, .f32⟩
  | .hbm, ⟨84, _⟩ => ⟨S35108x96, .f32⟩
  | .hbm, ⟨85, _⟩ => ⟨S_, .f32⟩
  | .hbm, ⟨86, _⟩ => ⟨S35108, .f32⟩
  | .hbm, ⟨87, _⟩ => ⟨S_, .f32⟩
  | .hbm, ⟨88, _⟩ => ⟨S35108, .f32⟩
  | .hbm, ⟨89, _⟩ => ⟨S35108, .i1⟩
  | .hbm, ⟨90, _⟩ => ⟨S35108, .f32⟩
  | .hbm, ⟨91, _⟩ => ⟨S_, .f32⟩
  | .hbm, ⟨92, _⟩ => ⟨S35108, .f32⟩
  | .hbm, ⟨93, _⟩ => ⟨S35108, .f32⟩
  | .hbm, ⟨94, _⟩ => ⟨S_, .f32⟩
  | .hbm, ⟨95, _⟩ => ⟨S35108, .f32⟩
  | .hbm, ⟨96, _⟩ => ⟨S35108, .f32⟩
  | .hbm, ⟨97, _⟩ => ⟨S35108x1, .f32⟩
  | .hbm, ⟨98, _⟩ => ⟨S35108x96, .f32⟩
  | .hbm, ⟨99, _⟩ => ⟨S35108x96, .f32⟩
  | .hbm, ⟨100, _⟩ => ⟨S35108x1, .f32⟩
  | .hbm, ⟨101, _⟩ => ⟨S35108x96, .f32⟩
  | .hbm, ⟨102, _⟩ => ⟨S35108x96, .f32⟩
  | .hbm, ⟨103, _⟩ => ⟨S35108x96, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S35108x96, .f32⟩
  | .hbm, ⟨108, _⟩ => ⟨S35108x96, .f32⟩
  | .hbm, ⟨109, _⟩ => ⟨S_, .f32⟩
  | .hbm, ⟨110, _⟩ => ⟨S35108x96, .f32⟩
  | .hbm, ⟨111, _⟩ => ⟨S35108x96, .f32⟩
  | .hbm, ⟨112, _⟩ => ⟨S35108x96, .i32⟩
  | .hbm, ⟨113, _⟩ => ⟨S35108x96, .i8⟩
  | .hbm, ⟨114, _⟩ => ⟨S35108x96, .i8⟩
  | .hbm, ⟨115, _⟩ => ⟨S35108, .f32⟩
  | .hbm, ⟨116, _⟩ => ⟨S35108, .f32⟩
  | .hbm, ⟨117, _⟩ => ⟨S35108x96, .bf16⟩
  | _, _ => ⟨S512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_v25 : Ref sig .tc := ⟨.hbm, 35, rfl⟩
abbrev main_cst_0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_1 : Ref sig .tc := ⟨.hbm, 48, rfl⟩
abbrev main_v37 : Ref sig .tc := ⟨.hbm, 49, rfl⟩
abbrev main_v38 : Ref sig .tc := ⟨.hbm, 50, rfl⟩
abbrev main_cst_2 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_4 : Ref sig .tc := ⟨.hbm, 59, rfl⟩
abbrev main_v45 : Ref sig .tc := ⟨.hbm, 60, rfl⟩
abbrev main_cst_5 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_11 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_13 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_call1_v0 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_cst_16 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81_0 : Ref sig .tc := ⟨.hbm, 114, rfl⟩
abbrev main_v81_1 : Ref sig .tc := ⟨.hbm, 115, rfl⟩
abbrev main_v81_2 : Ref sig .tc := ⟨.hbm, 116, rfl⟩
abbrev main_v82 : Ref sig .tc := ⟨.hbm, 117, rfl⟩

abbrev nD : Nat := 1
abbrev τ : Topo := Topo.v7x

variable {F : FTy → Type} [FloatOps F]
-- ==== Codes.lean ====
abbrev S35108 : Shape := ⟨1, ![35108]⟩
abbrev S3000000x96 : Shape := ⟨2, ![3000000, 96]⟩
abbrev S_ : Shape := ⟨0, ![]⟩
abbrev S1 : Shape := ⟨1, ![1]⟩
abbrev S1x0 : Shape := ⟨2, ![1, 0]⟩
abbrev S0 : Shape := ⟨1, ![0]⟩
abbrev S1x92 : Shape := ⟨2, ![1, 92]⟩
abbrev S92 : Shape := ⟨1, ![92]⟩
abbrev S35200 : Shape := ⟨1, ![35200]⟩
abbrev S275x1x128 : Shape := ⟨3, ![275, 1, 128]⟩
abbrev S8 : Shape := ⟨1, ![8]⟩
abbrev S275x1x1 : Shape := ⟨3, ![275, 1, 1]⟩
abbrev S275 : Shape := ⟨1, ![275]⟩
abbrev S283 : Shape := ⟨1, ![283]⟩
abbrev S96x3000000 : Shape := ⟨2, ![96, 3000000]⟩
abbrev S24x36864 : Shape := ⟨2, ![24, 36864]⟩
abbrev S96x4096 : Shape := ⟨2, ![96, 4096]⟩
abbrev S24x1024 : Shape := ⟨2, ![24, 1024]⟩
abbrev S1x1x128 : Shape := ⟨3, ![1, 1, 128]⟩
abbrev S1x128 : Shape := ⟨2, ![1, 128]⟩
abbrev S8x128 : Shape := ⟨2, ![8, 128]⟩
abbrev S96x128 : Shape := ⟨2, ![96, 128]⟩
abbrev S24x128 : Shape := ⟨2, ![24, 128]⟩
abbrev S8x128x1 : Shape := ⟨3, ![8, 128, 1]⟩

abbrev nBuf : Space → Nat
  | .hbm => 25
  | .vmem => 4
  | .smem => 3
  | _ => 0

abbrev bufTy : (tb : Table) → Fin (tcTables nBuf tb) → BufTy
  | .hbm, ⟨0, _⟩ => ⟨S35108, .i32⟩
  | .hbm, ⟨1, _⟩ => ⟨S3000000x96, .i8⟩
  | .hbm, ⟨2, _⟩ => ⟨S_, .i32⟩
  | .hbm, ⟨3, _⟩ => ⟨S1, .i32⟩
  | .hbm, ⟨4, _⟩ => ⟨S1x0, .i32⟩
  | .hbm, ⟨5, _⟩ => ⟨S0, .i32⟩
  | .hbm, ⟨6, _⟩ => ⟨S1, .i32⟩
  | .hbm, ⟨7, _⟩ => ⟨S1x92, .i32⟩
  | .hbm, ⟨8, _⟩ => ⟨S92, .i32⟩
  | .hbm, ⟨9, _⟩ => ⟨S35200, .i32⟩
  | .hbm, ⟨10, _⟩ => ⟨S275x1x128, .i32⟩
  | .hbm, ⟨11, _⟩ => ⟨S_, .i32⟩
  | .hbm, ⟨12, _⟩ => ⟨S8, .i32⟩
  | .hbm, ⟨13, _⟩ => ⟨S275x1x1, .i32⟩
  | .hbm, ⟨14, _⟩ => ⟨S275, .i32⟩
  | .hbm, ⟨15, _⟩ => ⟨S_, .i32⟩
  | .hbm, ⟨16, _⟩ => ⟨S275, .i32⟩
  | .hbm, ⟨17, _⟩ => ⟨S275, .i32⟩
  | .hbm, ⟨18, _⟩ => ⟨S275x1x1, .i32⟩
  | .hbm, ⟨19, _⟩ => ⟨S275, .i32⟩
  | .hbm, ⟨20, _⟩ => ⟨S_, .i32⟩
  | .hbm, ⟨21, _⟩ => ⟨S275, .i32⟩
  | .hbm, ⟨22, _⟩ => ⟨S275, .i32⟩
  | .hbm, ⟨23, _⟩ => ⟨S96x3000000, .i8⟩
  | .hbm, ⟨24, _⟩ => ⟨S24x36864, .i32⟩
  | .local _ .vmem, ⟨0, _⟩ => ⟨S275x1x128, .i32⟩
  | .local _ .vmem, ⟨1, _⟩ => ⟨S96x4096, .i8⟩
  | .local _ .vmem, ⟨2, _⟩ => ⟨S96x4096, .i8⟩
  | .local _ .vmem, ⟨3, _⟩ => ⟨S24x36864, .i32⟩
  | .local _ .smem, ⟨0, _⟩ => ⟨S283, .i32⟩
  | .local _ .smem, ⟨1, _⟩ => ⟨S283, .i32⟩
  | .local _ .smem, ⟨2, _⟩ => ⟨S1, .i32⟩
  | _, _ => ⟨S35108, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨2, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v13 : Ref sig .tc := ⟨.hbm, 23, rfl⟩
abbrev main_v14 : Ref sig .tc := ⟨.hbm, 24, rfl⟩
abbrev main_v7 : Ref sig .tc := ⟨.smem, 0, rfl⟩
abbrev main_v12 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![733], ![false]⟩

abbrev pre0 : Pipeline.Prefetch sig := ⟨2, ![main_v7.idx, main_v12.idx], fun | 0 => main_v7.names | 1 => main_v12.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c36_i32 : BitVec 32 := 36#32
  let v8 : BitVec 32 := Scalar.addi c0_i32_4 c36_i32
  let c1_i32 : BitVec 32 := 1#32
  ⟨c0_i32_4, v8, c1_i32⟩
def k0_mult1 (k0_t1 : Fin k0_t1_loop.trips) : BitVec 32 :=
  let c0_i32_7 : BitVec 32 := 0#32
  let c0_i32_4 : BitVec 32 := 0#32
  let c1_i32 : BitVec 32 := 1#32
  let arg7 : BitVec 32 := Scf.iv c0_i32_4 c1_i32 k0_t1
  let c1_i32_6 : BitVec 32 := 1#32
  let v9 : BitVec 32 := Scalar.muli arg7 c1_i32_6
  let v10 : BitVec 32 := Scalar.addi c0_i32_7 v9
  let c1024_i32 : BitVec 32 := 1024#32
  let v12 : BitVec 32 := Scalar.muli v10 c1024_i32
  v12
def k0_off1 (k0_t1 : Fin k0_t1_loop.trips) : Fin 2 → Nat :=
  let c0_9 : Index := 0#32
  let c0_i32_7 : BitVec 32 := 0#32
  let c0_i32_4 : BitVec 32 := 0#32
  let c1_i32 : BitVec 32 := 1#32
  let arg7 : BitVec 32 := Scf.iv c0_i32_4 c1_i32 k0_t1
  let c1_i32_6 : BitVec 32 := 1#32
  let v9 : BitVec 32 := Scalar.muli arg7 c1_i32_6
  let v10 : BitVec 32 := Scalar.addi c0_i32_7 v9
  let c1024_i32 : BitVec 32 := 1024#32
  let v12 : BitVec 32 := Scalar.muli v10 c1024_i32
  let v13 : BitVec 32 := v12
  let v14 : Index := Scalar.indexCast v13
  ![0, v14.toNat]
def k0_off2 (arg7 : BitVec 32) : Fin 1 → Nat :=
  let v8 : Index := Scalar.indexCast arg7
  ![v8.toNat]

def k0_chk1 (arg7 : BitVec 32) : Prop :=
  (∀ a, (k0_off2 arg7) a + S1.size a ≤ S283.size a)
theorem k0_off2_inb : ∀ (arg7 : BitVec 32) (k0_hw1 : k0_chk1 arg7), ∀ a, (k0_off2 arg7) a + S1.size a ≤ S283.size a := fun arg7 k0_hw1 => k0_hw1

def k0_off3 (arg7 : BitVec 32) : Fin 3 → Nat :=
  let v7 : Index := Scalar.indexCast arg7
  let c0_2 : Index := 0#32
  let c0_3 : Index := 0#32
  ![v7.toNat, 0, 0]

def k0_mult2 (arg7 : BitVec 32) : BitVec 32 :=
  let c128_i32 : BitVec 32 := 128#32
  let v18 : BitVec 32 := Scalar.muli arg7 c128_i32
  v18
def k0_off4 (arg7 : BitVec 32) : Fin 2 → Nat :=
  let c0_4 : Index := 0#32
  let c128_i32 : BitVec 32 := 128#32
  let v18 : BitVec 32 := Scalar.muli arg7 c128_i32
  let v19 : BitVec 32 := v18
  let v20 : Index := Scalar.indexCast v19
  ![0, v20.toNat]
def k0_off5 (arg7 : BitVec 32) : Fin 2 → Nat :=
  let c8 : Index := 8#32
  let c128_i32 : BitVec 32 := 128#32
  let v18 : BitVec 32 := Scalar.muli arg7 c128_i32
  let v19 : BitVec 32 := v18
  let v23 : Index := Scalar.indexCast v19
  ![8, v23.toNat]
def k0_off6 (arg7 : BitVec 32) : Fin 2 → Nat :=
  let c16 : Index := 16#32
  let c128_i32 : BitVec 32 := 128#32
  let v18 : BitVec 32 := Scalar.muli arg7 c128_i32
  let v19 : BitVec 32 := v18
  let v26 : Index := Scalar.indexCast v19
  ![16, v26.toNat]
def k0_off7 (arg7 : BitVec 32) : Fin 1 → Nat :=
  let v1155 : Index := Scalar.indexCast arg7
  ![v1155.toNat]

def k0_chk2 (arg7 : BitVec 32) : Prop :=
  (∀ a, (k0_off3 arg7) a + S1x1x128.size a ≤ S275x1x128.size a) ∧
  (128 ∣ (k0_mult2 arg7).toNat) ∧
  (∀ a, (k0_off4 arg7) a + S8x128.size a ≤ S24x36864.size a) ∧
  (∀ a, (k0_off5 arg7) a + S8x128.size a ≤ S24x36864.size a) ∧
  (∀ a, (k0_off6 arg7) a + S8x128.size a ≤ S24x36864.size a) ∧
  (∀ a, (k0_off7 arg7) a + S1.size a ≤ S283.size a)
theorem k0_off3_inb : ∀ (arg7 : BitVec 32) (k0_hw2 : k0_chk2 arg7), ∀ a, (k0_off3 arg7) a + S1x1x128.size a ≤ S275x1x128.size a := fun arg7 k0_hw2 => k0_hw2.1
theorem k0_mult2_dvd : ∀ (arg7 : BitVec 32) (k0_hw2 : k0_chk2 arg7), 128 ∣ (k0_mult2 arg7).toNat := fun arg7 k0_hw2 => k0_hw2.2.1
theorem k0_off4_inb : ∀ (arg7 : BitVec 32) (k0_hw2 : k0_chk2 arg7), ∀ a, (k0_off4 arg7) a + S8x128.size a ≤ S24x36864.size a := fun arg7 k0_hw2 => k0_hw2.2.2.1
theorem k0_off5_inb : ∀ (arg7 : BitVec 32) (k0_hw2 : k0_chk2 arg7), ∀ a, (k0_off5 arg7) a + S8x128.size a ≤ S24x36864.size a := fun arg7 k0_hw2 => k0_hw2.2.2.2.1
theorem k0_off6_inb : ∀ (arg7 : BitVec 32) (k0_hw2 : k0_chk2 arg7), ∀ a, (k0_off6 arg7) a + S8x128.size a ≤ S24x36864.size a := fun arg7 k0_hw2 => k0_hw2.2.2.2.2.1
theorem k0_off7_inb : ∀ (arg7 : BitVec 32) (k0_hw2 : k0_chk2 arg7), ∀ a, (k0_off7 arg7) a + S1.size a ≤ S283.size a := fun arg7 k0_hw2 => k0_hw2.2.2.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S275x1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S96x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S24x36864 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== CodesReference.lean ====
abbrev S35108 : Shape := ⟨1, ![35108]⟩
abbrev S3000000x96 : Shape := ⟨2, ![3000000, 96]⟩
abbrev S_ : Shape := ⟨0, ![]⟩
abbrev S35108x1 : Shape := ⟨2, ![35108, 1]⟩
abbrev S35108x96 : Shape := ⟨2, ![35108, 96]⟩
abbrev S35108x24x4 : Shape := ⟨3, ![35108, 24, 4]⟩
abbrev S35108x24 : Shape := ⟨2, ![35108, 24]⟩
abbrev S24x35108 : Shape := ⟨2, ![24, 35108]⟩
abbrev S24x1 : Shape := ⟨2, ![24, 1]⟩
abbrev S24x92 : Shape := ⟨2, ![24, 92]⟩
abbrev S24x1664 : Shape := ⟨2, ![24, 1664]⟩
abbrev S24x36864 : Shape := ⟨2, ![24, 36864]⟩

abbrev nBuf : Space → Nat
  | .hbm => 19
  | .vmem => 0
  | .smem => 0
  | _ => 0

abbrev bufTy : (tb : Table) → Fin (tcTables nBuf tb) → BufTy
  | .hbm, ⟨0, _⟩ => ⟨S35108, .i32⟩
  | .hbm, ⟨1, _⟩ => ⟨S3000000x96, .i8⟩
  | .hbm, ⟨2, _⟩ => ⟨S_, .i32⟩
  | .hbm, ⟨3, _⟩ => ⟨S35108, .i32⟩
  | .hbm, ⟨4, _⟩ => ⟨S35108, .i1⟩
  | .hbm, ⟨5, _⟩ => ⟨S_, .i32⟩
  | .hbm, ⟨6, _⟩ => ⟨S35108, .i32⟩
  | .hbm, ⟨7, _⟩ => ⟨S35108, .i32⟩
  | .hbm, ⟨8, _⟩ => ⟨S35108, .i32⟩
  | .hbm, ⟨9, _⟩ => ⟨S35108x1, .i32⟩
  | .hbm, ⟨10, _⟩ => ⟨S35108x96, .i8⟩
  | .hbm, ⟨11, _⟩ => ⟨S35108x24x4, .i8⟩
  | .hbm, ⟨12, _⟩ => ⟨S35108x24, .i32⟩
  | .hbm, ⟨13, _⟩ => ⟨S24x35108, .i32⟩
  | .hbm, ⟨14, _⟩ => ⟨S24x1, .i32⟩
  | .hbm, ⟨15, _⟩ => ⟨S24x92, .i32⟩
  | .hbm, ⟨16, _⟩ => ⟨S_, .i32⟩
  | .hbm, ⟨17, _⟩ => ⟨S24x1664, .i32⟩
  | .hbm, ⟨18, _⟩ => ⟨S24x36864, .i32⟩
  | _, _ => ⟨S35108, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.K.Points.lean ====
/- The grid points of `Kernel`'s pallas_call and what its body branches on. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 35 = 0 :=
  (fun t => Pipeline.Window.fetchOf_const cc0_transform_3 (fun _ _ => rfl) (n := 35) (by decide) t : ∀ t : Fin grid0.N, Pipeline.Window.fetchOf grid0 false cc0_transform_3 t = true ↔ t.val % 35 = 0)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (result 0 (%0#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 1 (fun _ => rfl) (by decide)) (P := 1) (m := 0) (by decide) rfl t).mpr (Nat.mod_one _) : ∀ t : Fin grid0.N, Pipeline.Window.flushOf grid0 true cc0_transform_5 t = true)
/-- Window 6 (result 1 (%0#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
/-- Window 7 (result 2 (%0#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 1 (fun _ => rfl) (by decide)) (P := 1) (m := 0) (by decide) rfl t).mpr (Nat.mod_one _) : ∀ t : Fin grid0.N, Pipeline.Window.flushOf grid0 true cc0_transform_7 t = true)
/-- Window 8 (result 3 (%0#3)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 1 (fun _ => rfl) (by decide)) (P := 1) (m := 0) (by decide) rfl t).mpr (Nat.mod_one _) : ∀ t : Fin grid0.N, Pipeline.Window.flushOf grid0 true cc0_transform_8 t = true)
/-- Window 9 (result 4 (%0#4)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 1 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_adam (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.Kernel.Gen

end
-- ==== Proof.K.Runs.lean ====
/- What the run of `Kernel` is stated over: the region-entry contents, the windows' blocks (window 2's, of the clipped kind but never cut, filled whole) and the staging memrefs. -/
module

public import proofs.«01_k».proof.Proof.Gen.Kernel.Launch
public import proofs.«01_k».proof.Proof.Gen.Kernel.Skeleton
public import proofs.«01_k».proof.Proof.K.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [] [hostOps1] (by simp only [List.Forall])
    (by simp only [List.Forall]) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v1, main_v2, main_v3, main_v4, main_v5}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S37408x128`), but no block the grid
    reaches is cut, so no part of its staging buffer is left unfilled by a fetch. A default for such a part, which
    nothing reads. -/
def dflt0_2 (hO : Ok m) : ((cfgM m hO).win 2).block.Idx → Elt F ((cfgM m hO).win 2).elt := fun _ => Classical.choice inferInstance
/-- What input window 2's current staging buffer holds when the body runs at `t`: its block read off the array,
    filled over `dflt0_2` (block-typed, where `iblk` is typed at the cut). -/
def X0_2 (hO : Ok m) (c : Dev nD) (t : Fin (cfgM m hO).N) : ((cfgM m hO).win 2).block.Idx → Elt F ((cfgM m hO).win 2).elt :=
  ((cfgM m hO).win 2).fill ((cfgM m hO).grid.coords t) (dflt0_2 m hO) (iblk m hO c 2 t)
/-- No point of the grid cuts window 2's block: 35 blocks of 1024 rows lie inside the 37408 rows (decided over the grid,
    the cut a function of the point alone). -/
theorem clip0_2_whole : ∀ (t : Fin grid0.N) (a : Fin S37408x128.rank), (clip0_2 (grid0.coords t) a).extent (S1024x128.size a) = S1024x128.size a := by decide +kernel
/-- At every point the cut's extent is the block's, whatever the tables hold: no transfer of input window 2 is cut. -/
theorem xsize0_2 (hO : Ok m) : ∀ t : Fin (cfgM m hO).N, ∀ a, ((cfgM m hO).win 2).xsize ((cfgM m hO).grid.coords t) a = ((cfgM m hO).win 2).size a := clip0_2_whole
/-- Every index of input window 2's block is moved at every point. -/
theorem moved0_2 (hO : Ok m) (t : Fin (cfgM m hO).N) (j : ((cfgM m hO).win 2).block.Idx) : ((cfgM m hO).win 2).moved ((cfgM m hO).grid.coords t) j = true :=
  (((cfgM m hO).win 2).moved_iff _ j).mpr fun a => by rw [xsize0_2 m hO t a]; exact (j a).isLt
/-- A fill of input window 2's block covers the whole buffer, whatever it held. -/
theorem fill0_2 (hO : Ok m) (t : Fin (cfgM m hO).N) (d d' : ((cfgM m hO).win 2).block.Idx → Elt F ((cfgM m hO).win 2).elt) (g) :
    ((cfgM m hO).win 2).fill ((cfgM m hO).grid.coords t) d g = ((cfgM m hO).win 2).fill ((cfgM m hO).grid.coords t) d' g := by
  funext j; unfold Pipeline.Window.fill; rw [dif_pos (moved0_2 m hO t j), dif_pos (moved0_2 m hO t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = X0_2 m hO c t) (t : Fin (cfgM m hO).N) (d) : dat.before 2 t d = X0_2 m hO c t :=
  (dat.before_in_eq_fetched 2 rfl (fun _ => rfl)
      (fun t t' h => funext fun a => congrArg (fun n => Pipeline.Clip.of n (((cfgM m hO).win 2).size a) (S37408x128.size a)) (congrFun h a))
      (fun t => by rw [hafter]; unfold X0_2; rw [Pipeline.Window.cut_fill]; unfold Dat.blockOf iblk; rw [hA]; try rfl) t d).trans
    (by unfold Dat.fetched X0_2; rw [fill0_2 m hO t d (dflt0_2 m hO)]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0 \ T0)).trans (V_main_arg0 m c),
      (Pipeline.RDat.FramePostR.arr_in h c 0 rfl).trans ((hA c 0).trans (V_main_arg1 m c)),
      (Pipeline.RDat.FramePostR.arr_in h c 1 rfl).trans ((hA c 1).trans (V_main_arg2 m c)),
      (Pipeline.RDat.FramePostR.arr_in h c 3 rfl).trans ((hA c 3).trans (V_main_arg3 m c)),
      (Pipeline.RDat.FramePostR.arr_in h c 4 rfl).trans ((hA c 4).trans (V_main_arg4 m c))⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S24x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S48x1024 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S32x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S96x1024 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S96x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1024 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.Kernel.Gen

end
-- ==== Proof.K.RunA.lean ====
/- The body of `Kernel`'s kernel run once on any whole staging memrefs: the pieces its stores leave are the witness. -/
module

public import proofs.«01_k».proof.Proof.K.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (5, 6, 7, 8, 9) at anything, handed back at some contents nothing names —
    the body runs to the continuation holding the inputs' as they were: the printed functions are their skeletons (`Gen.*_eq_skeleton`),
    which `sl_exec` runs (Lib/Exec.lean). -/
theorem kernelRun0_A (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
          ⊢ wp frame (wpE (defs₀ (F := F)) Variants.none c none) E (cc0_tc_adam i tbM0_0 htbM0_0 arg2 harg2 arg3 harg3 arg4 harg4 arg5 harg5 arg6 harg6 arg7 harg7 arg8 harg8 arg9 harg9 arg10 harg10 arg11 harg11) K := by
    intro E K
    simp only [cc0_tc_adam_eq_skeleton]; unfold cc0_tc_adam_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexact HT0

end Cert.Kernel.Gen

end
-- ==== Proof.K.Frame.lean ====
/- The frame of `Kernel`: what the outputs hold after every point, the proof data, the body obligation, the run of the whole program and its arguments unchanged. -/
module

public import proofs.«01_k».proof.Proof.K.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (5, 6, 7, 8, 9): nothing reads what the kernel leaves in them, so nothing
    of it is named (Lib/Pipeline/Dat.lean `Dat.toRForget`). -/
def forgets0 : Fin 10 → Bool := fun w => w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => X0_2 m hO c t
    | ⟨3, _⟩ => iblk m hO c 3 t
    | ⟨4, _⟩ => iblk m hO c 4 t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = X0_2 m hO c t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = X0_2 m hO c t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (X0_2 m hO c t) (iblk m hO c 3 t) (iblk m hO c 4 t) (tbl m 0)) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HT0]; · iexact HT0
  iintro ⟨H0, H1, H2, H3, H4, H5, H6, H7, H8, H9, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_around_T_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.RDat.FramePostR ((Pipeline.pin pcfgs fun _ => adm m hO) 0) (fun c => (dats m hO 0 c).toRForget forgets0) T0 (V m)) r ∧ r.2.sem = fun _ => 0) :=
  Pipeline.θ_run_frameP_around_T_forget_shared (Q' := _) pcfgs (fun _ => adm m hO) (dats m hO) (0 : Fin 1) launch₀0 defs₀ Variants.none forgets0 T0 m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 5, 6, 7, 8, 9) (Lib/Pipeline/Frame.lean `RDat.FramePostR` over the proof data with those windows
    forgotten, Dat.lean `Dat.toRForget`), and every other unscoped buffer outside `T0` at its region-entry contents. -/
theorem run_main (hO : Ok m) : θ_run defs (onTc (τ := τ) (main (F := F))) (s₀ m ρ) (Pipeline.RDat.FramePostR ((Pipeline.pin pcfgs fun _ => adm m hO) 0) (fun c => (dats m hO 0 c).toRForget forgets0) T0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; for every contents of the prefetched table, under `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel.Gen

end
-- ==== Proof.KI.Points.lean ====
/- The grid points of `KernelIdeal`'s pallas_call and what its body branches on. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg1)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 1 (fun _ => rfl) (by decide)) (P := 1) (by decide) t).mpr (Nat.mod_one _) : ∀ t : Fin grid0.N, Pipeline.Window.fetchOf grid0 false cc0_transform_0 t = true)
/-- Window 1 (operand 2 (%arg2)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 1 (fun _ => rfl) (by decide)) (P := 1) (by decide) t).mpr (Nat.mod_one _) : ∀ t : Fin grid0.N, Pipeline.Window.fetchOf grid0 false cc0_transform_1 t = true)
/-- Window 2 (operand 3 (%arg3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 4 (%arg3)) is fetched at the first point only, at any contents of the tables (its index map reads none). -/
theorem fetch0_3 (a : (pcfg0 (F := F)).Adm) : ∀ t : Fin (cfg0 a).N, ((cfg0 a).win 3).fetch t = true ↔ t.val % 35 = 0 :=
  (fun t => Pipeline.Window.fetchOf_const cc0_transform_3 (fun _ _ => rfl) (n := 35) (by decide) t : ∀ t : Fin grid0.N, Pipeline.Window.fetchOf grid0 false cc0_transform_3 t = true ↔ t.val % 35 = 0)
/-- Window 4 (operand 5 (%arg4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 1 (fun _ => rfl) (by decide)) (P := 1) (by decide) t).mpr (Nat.mod_one _) : ∀ t : Fin grid0.N, Pipeline.Window.fetchOf grid0 false cc0_transform_4 t = true)
/-- Window 5 (result 0 (%0#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 0 (by decide) (by decide) (Pipeline.Window.sep_of_coord cc0_transform_5 0 1 (fun _ => rfl) (by decide)) (P := 1) (m := 0) (by decide) rfl t).mpr (Nat.mod_one _) : ∀ t : Fin grid0.N, Pipeline.Window.flushOf grid0 true cc0_transform_5 t = true)
/-- Window 6 (result 1 (%0#1)) is written back at every point, at any contents of the tables (its index map reads none). -/
theorem flush0_6 (a : (pcfg0 (F := F)).Adm) : ∀ t : Fin (cfg0 a).N, ((cfg0 a).win 6).flush t = true :=
  (fun t => (Pipeline.Window.flushOf_reads cc0_transform_6 reads0_6 hreads0_6 0 (by decide) (by decide) (Pipeline.Window.sep_of_coord cc0_transform_6 0 1 (fun _ => rfl) (by decide)) (P := 1) (m := 0) (by decide) rfl t).mpr (Nat.mod_one _) : ∀ t : Fin grid0.N, Pipeline.Window.flushOf grid0 true cc0_transform_6 t = true)
/-- Window 7 (result 2 (%0#2)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 1 (fun _ => rfl) (by decide)) (P := 1) (m := 0) (by decide) rfl t).mpr (Nat.mod_one _) : ∀ t : Fin grid0.N, Pipeline.Window.flushOf grid0 true cc0_transform_7 t = true)
/-- Window 8 (result 3 (%0#3)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 1 (fun _ => rfl) (by decide)) (P := 1) (m := 0) (by decide) rfl t).mpr (Nat.mod_one _) : ∀ t : Fin grid0.N, Pipeline.Window.flushOf grid0 true cc0_transform_8 t = true)
/-- Window 9 (result 4 (%0#4)) is written back at every point, at any contents of the tables (its index map reads none). -/
theorem flush0_9 (a : (pcfg0 (F := F)).Adm) : ∀ t : Fin (cfg0 a).N, ((cfg0 a).win 9).flush t = true :=
  (fun t => (Pipeline.Window.flushOf_reads cc0_transform_9 reads0_9 hreads0_9 0 (by decide) (by decide) (Pipeline.Window.sep_of_coord cc0_transform_9 0 1 (fun _ => rfl) (by decide)) (P := 1) (m := 0) (by decide) rfl t).mpr (Nat.mod_one _) : ∀ t : Fin grid0.N, Pipeline.Window.flushOf grid0 true cc0_transform_9 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tc_adam (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9))

end Cert.KernelIdeal.Gen

end
-- ==== Proof.KI.Runs.lean ====
/- What the run of `KernelIdeal` is stated over: the region-entry contents, the windows' blocks (window 2's, of the clipped kind but never cut, filled whole) and the staging memrefs. -/
module

public import proofs.«01_k».proof.Proof.Gen.KernelIdeal.Launch
public import proofs.«01_k».proof.Proof.Gen.KernelIdeal.Skeleton
public import proofs.«01_k».proof.Proof.KI.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (none here). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [] [hostOps1] (by simp only [List.Forall])
    (by simp only [List.Forall]) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S512 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 is of the clipped KIND (its block does not tile its array `S37408x128`), but no block the grid
    reaches is cut, so no part of its staging buffer is left unfilled by a fetch. A default for such a part, which
    nothing reads. -/
def dflt0_2 (hO : Ok m) : ((cfgM m hO).win 2).block.Idx → Elt F ((cfgM m hO).win 2).elt := fun _ => Classical.choice inferInstance
/-- What input window 2's current staging buffer holds when the body runs at `t`: its block read off the array,
    filled over `dflt0_2` (block-typed, where `iblk` is typed at the cut). -/
def X0_2 (hO : Ok m) (c : Dev nD) (t : Fin (cfgM m hO).N) : ((cfgM m hO).win 2).block.Idx → Elt F ((cfgM m hO).win 2).elt :=
  ((cfgM m hO).win 2).fill ((cfgM m hO).grid.coords t) (dflt0_2 m hO) (iblk m hO c 2 t)
/-- No point of the grid cuts window 2's block: 35 blocks of 1024 rows lie inside the 37408 rows (decided over the grid,
    the cut a function of the point alone). -/
theorem clip0_2_whole : ∀ (t : Fin grid0.N) (a : Fin S37408x128.rank), (clip0_2 (grid0.coords t) a).extent (S1024x128.size a) = S1024x128.size a := by decide +kernel
/-- At every point the cut's extent is the block's, whatever the tables hold: no transfer of input window 2 is cut. -/
theorem xsize0_2 (hO : Ok m) : ∀ t : Fin (cfgM m hO).N, ∀ a, ((cfgM m hO).win 2).xsize ((cfgM m hO).grid.coords t) a = ((cfgM m hO).win 2).size a := clip0_2_whole
/-- Every index of input window 2's block is moved at every point. -/
theorem moved0_2 (hO : Ok m) (t : Fin (cfgM m hO).N) (j : ((cfgM m hO).win 2).block.Idx) : ((cfgM m hO).win 2).moved ((cfgM m hO).grid.coords t) j = true :=
  (((cfgM m hO).win 2).moved_iff _ j).mpr fun a => by rw [xsize0_2 m hO t a]; exact (j a).isLt
/-- A fill of input window 2's block covers the whole buffer, whatever it held. -/
theorem fill0_2 (hO : Ok m) (t : Fin (cfgM m hO).N) (d d' : ((cfgM m hO).win 2).block.Idx → Elt F ((cfgM m hO).win 2).elt) (g) :
    ((cfgM m hO).win 2).fill ((cfgM m hO).grid.coords t) d g = ((cfgM m hO).win 2).fill ((cfgM m hO).grid.coords t) d' g := by
  funext j; unfold Pipeline.Window.fill; rw [dif_pos (moved0_2 m hO t j), dif_pos (moved0_2 m hO t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = X0_2 m hO c t) (t : Fin (cfgM m hO).N) (d) : dat.before 2 t d = X0_2 m hO c t :=
  (dat.before_in_eq_fetched 2 rfl (fun _ => rfl)
      (fun t t' h => funext fun a => congrArg (fun n => Pipeline.Clip.of n (((cfgM m hO).win 2).size a) (S37408x128.size a)) (congrFun h a))
      (fun t => by rw [hafter]; unfold X0_2; rw [Pipeline.Window.cut_fill]; unfold Dat.blockOf iblk; rw [hA]; try rfl) t d).trans
    (by unfold Dat.fetched X0_2; rw [fill0_2 m hO t d (dflt0_2 m hO)]; unfold Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (Pipeline.afterTail pcfgs (fun _ => adm m hO) dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(((h c).2 main_arg0 (by decide : main_arg0 ∈ Pipeline.restRefs sig spec0)).trans (W_main_arg0 m hO dats c)),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c)))⟩) h

/-! ## The kernel body on any staging memrefs: a subtype the run finds -/

/-- One staging buffer of output window 5, through which its contents are stated (`View.read_writes_of_cover`: the
    choice does not matter). -/
abbrev VO0_5 : View sig .tc .vmem S96x1024 .i8 := (Memref.whole cc0_stg5_0 : Memref sig .tc .vmem S96x1024 .i8).view
/-- One staging buffer of output window 6, through which its contents are stated (`View.read_writes_of_cover`: the
    choice does not matter). -/
abbrev VO0_6 : View sig .tc .vmem S96x1024 .bf16 := (Memref.whole cc0_stg6_0 : Memref sig .tc .vmem S96x1024 .bf16).view
/-- One staging buffer of output window 7, through which its contents are stated (`View.read_writes_of_cover`: the
    choice does not matter). -/
abbrev VO0_7 : View sig .tc .vmem S1x1024 .f32 := (Memref.whole cc0_stg7_0 : Memref sig .tc .vmem S1x1024 .f32).view
/-- One staging buffer of output window 8, through which its contents are stated (`View.read_writes_of_cover`: the
    choice does not matter). -/
abbrev VO0_8 : View sig .tc .vmem S1x1024 .f32 := (Memref.whole cc0_stg8_0 : Memref sig .tc .vmem S1x1024 .f32).view
/-- One staging buffer of output window 9, through which its contents are stated (`View.read_writes_of_cover`: the
    choice does not matter). -/
abbrev VO0_9 : View sig .tc .vmem S1x1024 .f32 := (Memref.whole cc0_stg9_0 : Memref sig .tc .vmem S1x1024 .f32).view
/-- Each window's current staging memref at point `t`, spelled as the pipeline passes it (`bodyAt0`), and its wholeness. -/
abbrev ms0_0 (hO : Ok m) (t : Fin (cfgM m hO).N) : Memref sig .tc .vmem S24x1024 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S48x1024 .i32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x128 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S32x128 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S3x1024 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S96x1024 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S96x1024 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x1024 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1024 .f32 := spec0_9.stage ((cfgM m hO).slots t 9)
abbrev hs0_9 (hO : Ok m) (t : Fin (cfgM m hO).N) : (ms0_9 m hO t).IsWhole := hstage0_9 (((cfgM m hO).slots t 9).cast nbuf0_9)

end Cert.KernelIdeal.Gen

end
-- ==== Proof.KI.RunA.lean ====
/- The body of `KernelIdeal`'s kernel run once on any whole staging memrefs: the pieces its stores leave are the witness. -/
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) :
    Σ' (L5 : List (View.Piece (Elt F) S96x1024 .i8)), Σ' (L6 : List (View.Piece (Elt F) S96x1024 .bf16)), Σ' (L7 : List (View.Piece (Elt F) S1x1024 .f32)), Σ' (L8 : List (View.Piece (Elt F) S1x1024 .f32)), { L9 : List (View.Piece (Elt F) S1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ tbPt0 c tbM0_0 xt0) -∗ K ⟨⟩))
          ⊢ wp frame (wpE (defs₀ (F := F)) Variants.none c none) E (cc0_tc_adam i tbM0_0 htbM0_0 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_tc_adam_eq_skeleton]; unfold cc0_tc_adam_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, HT0, Hk⟩
    obtain rfl := harg2.eq_unread hf0; obtain rfl := harg3.eq_unread hf1; obtain rfl := harg4.eq_unread hf2; obtain rfl := harg5.eq_unread hf3; obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    iexact HT0

end Cert.KernelIdeal.Gen

end
-- ==== Proof.KI.Frame.lean ====
/- The frame of `KernelIdeal`: what the outputs hold after every point, the proof data, the body obligation, the run of the whole program and its arguments unchanged. -/
module

public import proofs.«01_k».proof.Proof.KI.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 5 tile its block (1 store of `S96x1024`, checked by the kernel's evaluation: Lib/Ring.lean `Piece.tiledL`, linear in the pieces, through a loop's `@[irreducible]` trip theorem too), so they cover it. -/
theorem cover0_A_5 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) (y : S96x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4 xt0).1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 xt0).1 S96x1024.size (by sl_kernel_rfl) y

/-- What the run leaves in output 5's staging buffer: its pieces read back over junk. -/
def out0_A_5 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) : Vec F S96x1024 .i8 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 x0 x1 x2 x3 x4 xt0).1)

/-- The run's pieces for output 6 tile its block (1 store of `S96x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) (y : S96x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 xt0).2.1 S96x1024.size (by sl_kernel_rfl) y

/-- What the run leaves in output 6's staging buffer: its pieces read back over junk. -/
def out0_A_6 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) : Vec F S96x1024 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 x0 x1 x2 x3 x4 xt0).2.1)

/-- The run's pieces for output 7 tile its block (1 store of `S1x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) (y : S1x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 xt0).2.2.1 S1x1024.size (by sl_kernel_rfl) y

/-- What the run leaves in output 7's staging buffer: its pieces read back over junk. -/
def out0_A_7 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) : Vec F S1x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 x0 x1 x2 x3 x4 xt0).2.2.1)

/-- The run's pieces for output 8 tile its block (1 store of `S1x1024`, checked by the kernel's evaluation: Lib/Ring.lean `Piece.tiledL`, linear in the pieces, through a loop's `@[irreducible]` trip theorem too), so they cover it. -/
theorem cover0_A_8 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) (y : S1x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 xt0).2.2.2.1 S1x1024.size (by sl_kernel_rfl) y

/-- What the run leaves in output 8's staging buffer: its pieces read back over junk. -/
def out0_A_8 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) : Vec F S1x1024 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 x0 x1 x2 x3 x4 xt0).2.2.2.1)

/-- The run's pieces for output 9 tile its block (1 store of `S1x1024`, checked by the kernel's evaluation: Lib/Ring.lean `Piece.tiledL`, linear in the pieces, through a loop's `@[irreducible]` trip theorem too), so they cover it. -/
theorem cover0_A_9 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) (y : S1x1024.Idx) :
    ∃ pc ∈ (kernelRun0_A c i arg2 harg2 arg3 harg3 arg4 harg4 arg5 harg5 arg6 harg6 arg7 harg7 arg8 harg8 arg9 harg9 arg10 harg10 arg11 harg11 x0 x1 x2 x3 x4 xt0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 x0 x1 x2 x3 x4 xt0).2.2.2.2.1 S1x1024.size (by sl_kernel_rfl) y

/-- What the run leaves in output 9's staging buffer: its pieces read back over junk. -/
def out0_A_9 (c : Dev nD) (i : grid0.Coords) (arg2 : Memref sig .tc .vmem S24x1024 .i32) (harg2 : arg2.IsWhole) (arg3 : Memref sig .tc .vmem S48x1024 .i32) (harg3 : arg3.IsWhole) (arg4 : Memref sig .tc .vmem S1024x128 .f32) (harg4 : arg4.IsWhole) (arg5 : Memref sig .tc .vmem S32x128 .f32) (harg5 : arg5.IsWhole) (arg6 : Memref sig .tc .vmem S3x1024 .f32) (harg6 : arg6.IsWhole) (arg7 : Memref sig .tc .vmem S96x1024 .i8) (harg7 : arg7.IsWhole) (arg8 : Memref sig .tc .vmem S96x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole)
    (x0 : Vec F S24x1024 .i32) (x1 : Vec F S48x1024 .i32) (x2 : Vec F S1024x128 .f32) (x3 : Vec F S32x128 .f32) (x4 : Vec F S3x1024 .f32) (xt0 : TbBuf0 (F := F) c tbM0_0) : Vec F S1x1024 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 x0 x1 x2 x3 x4 xt0).2.2.2.2.1)

/-! ## What the outputs hold after each point -/

/-- What the outputs' staging buffers hold after the body at point `t` (as a tuple, in window order): the run's contents at
    the point's memrefs and input blocks. -/
def outsAt0 (hO : Ok m) (c : Dev nD) (t : Fin (cfgM m hO).N) : Vec F S96x1024 .i8 × Vec F S96x1024 .bf16 × Vec F S1x1024 .f32 × Vec F S1x1024 .f32 × Vec F S1x1024 .f32 :=
  (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (X0_2 m hO c t) (iblk m hO c 3 t) (iblk m hO c 4 t) (tbl m 0), out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (X0_2 m hO c t) (iblk m hO c 3 t) (iblk m hO c 4 t) (tbl m 0), out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (X0_2 m hO c t) (iblk m hO c 3 t) (iblk m hO c 4 t) (tbl m 0), out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (X0_2 m hO c t) (iblk m hO c 3 t) (iblk m hO c 4 t) (tbl m 0), out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (iblk m hO c 0 t) (iblk m hO c 1 t) (X0_2 m hO c t) (iblk m hO c 3 t) (iblk m hO c 4 t) (tbl m 0))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => X0_2 m hO c t
    | ⟨3, _⟩ => iblk m hO c 3 t
    | ⟨4, _⟩ => iblk m hO c 4 t
    | ⟨5, _⟩ => (outsAt0 m hO c t).1
    | ⟨6, _⟩ => (outsAt0 m hO c t).2.1
    | ⟨7, _⟩ => (outsAt0 m hO c t).2.2.1
    | ⟨8, _⟩ => (outsAt0 m hO c t).2.2.2.1
    | ⟨9, _⟩ => (outsAt0 m hO c t).2.2.2.2
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = X0_2 m hO c t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t).1 := by dsimp only [dats]; try rfl
theorem after0_6 (hO : Ok m) (c : Dev nD) (t : Fin (cfgM m hO).N) : (dats m hO 0 c).after 6 t = (outsAt0 m hO c t).2.1 := by dsimp only [dats]; try rfl
theorem after0_7 (hO : Ok m) (c : Dev nD) (t : Fin (cfgM m hO).N) : (dats m hO 0 c).after 7 t = (outsAt0 m hO c t).2.2.1 := by dsimp only [dats]; try rfl
theorem after0_8 (hO : Ok m) (c : Dev nD) (t : Fin (cfgM m hO).N) : (dats m hO 0 c).after 8 t = (outsAt0 m hO c t).2.2.2.1 := by dsimp only [dats]; try rfl
theorem after0_9 (hO : Ok m) (c : Dev nD) (t : Fin (cfgM m hO).N) : (dats m hO 0 c).after 9 t = (outsAt0 m hO c t).2.2.2.2 := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = X0_2 m hO c t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t))

set_option maxHeartbeats 800000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9]
  rw [show (dats m hO 0 c).Φ t.castSucc = iprop(Pipeline.ΦA spec0 c ∗ Pipeline.ΦT pre0 (tbl m) c) from rfl, PhiT0_eq]
  unfold outsAt0
  unfold out0_A_5 out0_A_6 out0_A_7 out0_A_8 out0_A_9; (try dsimp only)
  iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ (iblk m hO c 0 t) (iblk m hO c 1 t) (X0_2 m hO c t) (iblk m hO c 3 t) (iblk m hO c 4 t) (tbl m 0)).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [HT0]; · iexact HT0
  iintro ⟨H0, H1, H2, H3, H4, ⟨%e5, H5⟩, ⟨%e6, H6⟩, ⟨%e7, H7⟩, ⟨%e8, H8⟩, ⟨%e9, H9⟩, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_around_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (Pipeline.afterTail pcfgs (fun _ => adm m hO) (dats m hO) 0 (V0 m) [hostOps1])) r ∧ r.2.sem = fun _ => 0) :=
  Pipeline.θ_run_frameP_around_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (Pipeline.afterTail pcfgs (fun _ => adm m hO) (dats m hO) 0 (V0 m) [hostOps1])) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; for every contents of the prefetched table, under `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.KernelIdeal.Gen

end
-- ==== Proof.Row.lean ====
/- One row of the embedding gradient step over the extended reals: every quantity the kernel and the reference compute for
   a touched row, as a function of that row's own data. Nothing here mentions either program. -/
module

public import Idealize.ShloMosaic.Lib.Pointwise

@[expose] public section

noncomputable section

namespace Cert.Row

open Idealize.ShloMosaic

/-- A 32-bit constant as the extended real it stands for. -/
abbrev lit (b : BitVec 32) : EReal := Ideal.ofBits .f32 b

/-! ### The row's data, read out of the argument arrays -/

/-- Code `d` of row `r`: byte `d % 4` of word `d / 4`. -/
def code (x1 : (⟨2, ![24, 36864]⟩ : Shape).Idx → BitVec 32) (r : Fin 36864) (d : Fin 96) : BitVec 8 :=
  (x1 (ix2 ⟨d.val / 4, by omega⟩ r)).extractLsb' (8 * (d.val % 4)) 8

/-- First momentum `d` of row `r`: the bf16 number in half `d % 2` of word `d / 2`. -/
def mom (x2 : (⟨2, ![48, 36864]⟩ : Shape).Idx → BitVec 32) (r : Fin 36864) (d : Fin 96) : EReal :=
  Ideal.ofBits .bf16 ((x2 (ix2 ⟨d.val / 2, by omega⟩ r)).extractLsb' (16 * (d.val % 2)) 16)

/-- What one worker's head partial sum adds to an entry of the row numbered `r`: `x` where the worker's head row `h` is
    that row, else nothing. -/
def headTerm (r h : BitVec 32) (x : EReal) : EReal := Scalar.select (IntOp.cmpi .eq r h) x 0

/-- Gradient `d` of row `r`: the row's segment sum and the head partial sums of the workers whose head row it is. -/
def grad (x0 : (⟨1, ![512]⟩ : Shape).Idx → BitVec 32) (x3 : (⟨2, ![37408, 128]⟩ : Shape).Idx → EReal) (r : Fin 36864) (d : Fin 96) : EReal :=
  x3 (ix2 ⟨r.val, by omega⟩ ⟨d.val, by omega⟩)
    + ∑ w : Fin 32, headTerm (BitVec.ofNat 32 r.val) (x0 (ix1 ⟨16 * w.val, by omega⟩)) (x3 (ix2 ⟨36864 + w.val, by omega⟩ ⟨d.val, by omega⟩))

/-! ### The row's update -/

/-- New first momentum: `β₁ m + (1 - β₁) g`. -/
def mNew (m g : EReal) : EReal := lit 0x3F666666#32 * m + lit 0x3DCCCCCD#32 * g

/-- New second moment of the row: `β₂ v + (1 - β₂) · mean of g²`. -/
def vNew (v : EReal) (g : Fin 96 → EReal) : EReal :=
  lit 0x3F7FBE77#32 * v + lit 0x3A83126F#32 * Ideal.div (∑ d, g d * g d) (lit 0x42C00000#32)

/-- New weight: the dequantised weight less the learning rate times the corrected momentum over `√(corrected v) + ε`. -/
def wNew (q : BitVec 8) (s b m v : EReal) : EReal :=
  FloatOps.sitofp (F := Ideal) .f32 (BitVec.setWidth 32 q) * s + b
    - Ideal.div (lit 0x3C23D70A#32 * Ideal.div m (lit 0x3F7FFE42#32))
        (Ideal.sqrt (Ideal.div v (lit 0x3DC2FC56#32)) + lit 0x322BCC77#32)

/-! ### The row's quantiser -/

/-- Least entry of a row. -/
def rMin (w : Fin 96 → EReal) : EReal := Finset.fold min (lit 0x7F800000#32) w Finset.univ

/-- Greatest entry of a row. -/
def rMax (w : Fin 96 → EReal) : EReal := Finset.fold max (lit 0xFF800000#32) w Finset.univ

/-- The row's scale: one where the row is constant, else its range over 255. -/
def scale (w : Fin 96 → EReal) : EReal := if rMax w = rMin w then 1 else Ideal.div (rMax w - rMin w) (lit 0x437F0000#32)

/-- The code of entry `x` of row `w`: rounded half to even, clipped to 0 … 255. -/
def requant (w : Fin 96 → EReal) (x : EReal) : BitVec 8 :=
  BitVec.setWidth 8 (FloatOps.fptosi (F := Ideal) (φ := .f32) 32
    (min (lit 0x437F0000#32) (max 0 (Ideal.liftRound Ideal.roundHalfEven (Ideal.div (x - rMin w) (scale w))))))

/-! ### The results of one row, from the arguments -/

section Results
variable (x0 : (⟨1, ![512]⟩ : Shape).Idx → BitVec 32) (x1 : (⟨2, ![24, 36864]⟩ : Shape).Idx → BitVec 32)
  (x2 : (⟨2, ![48, 36864]⟩ : Shape).Idx → BitVec 32) (x3 : (⟨2, ![37408, 128]⟩ : Shape).Idx → EReal)
  (x4 : (⟨2, ![3, 36864]⟩ : Shape).Idx → EReal) (r : Fin 36864)

/-- Row `r`'s new first momentum. -/
def momOut (d : Fin 96) : EReal := mNew (mom x2 r d) (grad x0 x3 r d)

/-- Row `r`'s new second moment. -/
def vOut : EReal := vNew (x4 (ix2 2 r)) (grad x0 x3 r)

/-- Row `r`'s new weights. -/
def wOut (d : Fin 96) : EReal :=
  wNew (code x1 r d) (x4 (ix2 0 r)) (x4 (ix2 1 r)) (momOut x0 x2 x3 r d) (vOut x0 x3 x4 r)

/-- Row `r`'s new codes. -/
def codeOut (d : Fin 96) : BitVec 8 := requant (wOut x0 x1 x2 x3 x4 r) (wOut x0 x1 x2 x3 x4 r d)

/-- Row `r`'s new scale. -/
def scaleOut : EReal := scale (wOut x0 x1 x2 x3 x4 r)

/-- Row `r`'s new bias. -/
def biasOut : EReal := rMin (wOut x0 x1 x2 x3 x4 r)

end Results

end Cert.Row

end
-- ==== Proof.Words.lean ====
/- A kernel's bitcast of a rank-two array of 32-bit words to bytes or to 16-bit halves, at an index: the parts of a word lie
   below one another, the lowest first. -/
module

public import Idealize.ShloMosaic.Lib.Pointwise
public import Idealize.ShloMosaic.Lib.BitcastPair

@[expose] public section

namespace Cert.Row

open Idealize.ShloMosaic

/-- Part `j % (32 / w)` of the word in row `j / (32 / w)`, for parts of any width `w` that divides 32 as `32 = k * w`. -/
theorem bitcast_word {s t : Shape} (w k : Nat) (hk : k * w = 32) (x : s.Idx → BitVec 32) (h : s.Bitcasts 32 t w) (j : t.Idx)
    (hp : ∀ a : Fin s.rank, a.val + 2 = s.rank → t.row j / k < s.size a) :
    bitcast t w x h j = (x (h.srcIdx j (t.row j / k) hp)).extractLsb' (w * (t.row j % k)) w := by
  apply BitVec.eq_of_getLsbD_eq
  intro i hi
  have hk0 : 0 < k := Nat.pos_of_ne_zero fun e => by subst e; omega
  have hlt : w * (t.row j % k) + i < 32 := by
    have h1 : t.row j % k < k := Nat.mod_lt _ hk0
    have h2 : w * (t.row j % k + 1) ≤ w * k := Nat.mul_le_mul_left _ h1
    rw [Nat.mul_comm w k, hk, Nat.mul_add, Nat.mul_one] at h2
    omega
  have e : t.row j * w + i = 32 * (t.row j / k) + (w * (t.row j % k) + i) := by
    have h1 := Nat.div_add_mod (t.row j) k
    calc t.row j * w + i = (k * (t.row j / k) + t.row j % k) * w + i := by rw [h1]
      _ = (k * w) * (t.row j / k) + (w * (t.row j % k) + i) := by ring
      _ = _ := by rw [hk]
  rw [bitcast_getLsbD x h j i hi (by decide), BitVec.getLsbD_extractLsb']
  have e1 : (t.row j * w + i) / 32 = t.row j / k := by rw [e]; omega
  have e2 : (t.row j * w + i) % 32 = w * (t.row j % k) + i := by rw [e]; omega
  rw [h.srcIdx_congr j e1 _ hp, e2, decide_eq_true hi, Bool.true_and]

/-- The same for rank two, at a row and a column. -/
theorem bitcast_word_two {a b n : Nat} (w k : Nat) (hk : k * w = 32) (x : (⟨2, ![a, n]⟩ : Shape).Idx → BitVec 32)
    (h : (⟨2, ![a, n]⟩ : Shape).Bitcasts 32 ⟨2, ![b, n]⟩ w) (d : Fin b) (l : Fin n) (hd : d.val / k < a) :
    bitcast (⟨2, ![b, n]⟩ : Shape) w x h (ix2 d l) = (x (ix2 ⟨d.val / k, hd⟩ l)).extractLsb' (w * (d.val % k)) w := by
  have hrow : (⟨2, ![b, n]⟩ : Shape).row (ix2 d l) = d.val := rfl
  have hp : ∀ c : Fin (⟨2, ![a, n]⟩ : Shape).rank, c.val + 2 = (⟨2, ![a, n]⟩ : Shape).rank →
      (⟨2, ![b, n]⟩ : Shape).row (ix2 d l) / k < (⟨2, ![a, n]⟩ : Shape).size c := fun c hc => by
    have : c = (0 : Fin 2) := Fin.ext (show c.val = 0 by have : c.val + 2 = 2 := hc; omega)
    subst this; exact hd
  rw [bitcast_word w k hk x h _ hp]
  congr 2
  funext c
  match c with
  | ⟨0, _⟩ => exact Fin.ext (h.srcIdx_row _ _ hp 0 rfl)
  | ⟨1, _⟩ => exact Fin.ext (h.srcIdx_other _ _ hp 1 (fun e => absurd (show (1 : Nat) + 2 = 2 from e) (by decide)))

end Cert.Row
-- ==== Proof.KI.Grad.lean ====
/- What the kernel's body computes, at an index: each stored value at (entry, lane) as that lane's row result (`Row`) of the
   row's data in the input blocks. -/
module

public import proofs.«01_k».proof.Proof.Gen.KernelIdeal.Skeleton
public import proofs.«01_k».proof.Proof.Row
public import proofs.«01_k».proof.Proof.Words

@[expose] public section

set_option maxRecDepth 16384

noncomputable section

namespace Cert.KernelIdeal.Gen

open Idealize.ShloMosaic

section Terms
variable {F : FTy → Type} [FloatOps F]
variable (i : grid0.Coords) (v0 : Vec F S1024x128 .f32) (v7 : Vec F S32x128 .f32) (h : Fin 32 → BitVec 32)

/-- The gradient after the first 31 workers' head partial sums, in the body's order. -/
def gPrev : FVec F S96x1024 .f32 :=
  k0_pay19 (k0_pay1 i) (k0_pay2 v7)
    (k0_pay16 (k0_pay1 i) (k0_pay2 v7)
      (k0_pay12 (k0_pay1 i) (k0_pay2 v7)
        (k0_pay10 (k0_pay1 i) (k0_pay2 v7)
          (k0_pay7 (k0_pay1 i) (k0_pay2 v7)
            (k0_pay6 (k0_pay1 i) (k0_pay2 v7) (k0_pay3 i v0 v7 (h 0) (h 1) (h 2)) (k0_pay4 (F := F) i (h 3)) (k0_pay5 v7) (h 4) (h 5) (h 6) (h 7))
            (h 8) (h 9) (h 10) (h 11))
          (k0_pay8 (k0_pay2 v7)) (FloatOps.ofBits .f32 0x00000000#32) (k0_pay9 (F := F) (k0_pay1 i) (h 12)) (h 13) (h 14) (h 15) (h 16))
        (k0_pay11 (F := F) (h 17)) (h 18) (h 19) (h 20))
      (k0_pay13 (F := F) (k0_pay1 i) (h 21)) (k0_pay14 (k0_pay2 v7)) k0_pay15 (h 22) (h 23) (h 24) (h 25))
    (k0_pay17 (F := F) (k0_pay1 i) (h 26)) (k0_pay18 (k0_pay2 v7)) (FloatOps.ofBits .f32 0x00000000#32) (h 27) (h 28) (h 29) (h 30)

end Terms

section AtIndex
variable (i : grid0.Coords) (v0 : Vec Ideal S1024x128 .f32) (v7 : Vec Ideal S32x128 .f32) (h : Fin 32 → BitVec 32)
  (d : Fin 96) (l : Fin 1024)

theorem pay1_apply : k0_pay1 i (ix2 0 l) = BitVec.ofNat 32 l.val + BitVec.ofNat 32 (i 0).val * 1024#32 := by
  pointwise [k0_pay1]; rfl

theorem pay2_apply (w : Fin 32) : k0_pay2 v7 (ix2 d w) = v7 (ix2 w ⟨d.val, by omega⟩) := by
  pointwise [k0_pay2]

/-- The gradient at an entry: the segment sum and the workers' contributions. -/
theorem grad_apply :
    k0_pay20 (k0_pay1 i) (k0_pay2 v7) (gPrev i v0 v7 h) (h 31) (ix2 d l)
      = v0 (ix2 l ⟨d.val, by omega⟩)
        + ∑ w : Fin 32, Row.headTerm (BitVec.ofNat 32 l.val + BitVec.ofNat 32 (i 0).val * 1024#32) (h w) (v7 (ix2 w ⟨d.val, by omega⟩)) := by
  pointwise [gPrev, k0_pay3, k0_pay4, k0_pay5, k0_pay6, k0_pay7, k0_pay8, k0_pay9, k0_pay10, k0_pay11, k0_pay12, k0_pay13, k0_pay14, k0_pay15,
    k0_pay16, k0_pay17, k0_pay18, k0_pay19, k0_pay20]
  simp only [Fin.sum_univ_castSucc, Finset.univ_eq_empty, Finset.sum_empty, zero_add, pay1_apply, pay2_apply, ← add_assoc]
  rfl

/-- The dequantised weight, from the code's byte. -/
theorem pay21_apply (s b : Vec Ideal S1x1024 .f32) (x : Vec Ideal S24x1024 .i32) :
    k0_pay21 s b x (ix2 d l)
      = FloatOps.sitofp (F := Ideal) .f32 (BitVec.setWidth 32 ((x (ix2 ⟨d.val / 4, by omega⟩ l)).extractLsb' (8 * (d.val % 4)) 8)) * s (ix2 0 l)
        + b (ix2 0 l) := by
  pointwise [k0_pay21]
  rw [show bitcast S96x1024 8 x bitcasts_S24x1024_w32_S96x1024_w8 (ix2 d l) = _ from
    Row.bitcast_word_two 8 4 rfl x bitcasts_S24x1024_w32_S96x1024_w8 d l (by omega)]

variable (v6 : IVec S1x1024 32) (v9 : FVec Ideal S96x32 .f32) (v350 : FVec Ideal S96x1024 .f32) (v351 : BitVec 32)

/-- The new first momentum, from the old one's half word and the gradient. -/
theorem pay22_apply (x : Vec Ideal S48x1024 .i32) :
    k0_pay22 v6 v9 v350 v351 x (ix2 d l)
      = Row.mNew (Ideal.ofBits .bf16 ((x (ix2 ⟨d.val / 2, by omega⟩ l)).extractLsb' (16 * (d.val % 2)) 16)) (k0_pay20 v6 v9 v350 v351 (ix2 d l)) := by
  pointwise [k0_pay22, Row.mNew]
  rw [show bitcast S96x1024 16 x bitcasts_S48x1024_w32_S96x1024_w16 (ix2 d l) = _ from
    Row.bitcast_word_two 16 2 rfl x bitcasts_S48x1024_w32_S96x1024_w16 d l (by omega)]

/-- The new second moment, from the old one and the gradients of the lane. -/
theorem pay23_apply (x : Vec Ideal S1x1024 .f32) :
    k0_pay23 v6 v9 v350 v351 x (ix2 0 l) = Row.vNew (x (ix2 0 l)) fun d => k0_pay20 v6 v9 v350 v351 (ix2 d l) := by
  pointwise [k0_pay23, Row.vNew]

/-- The first momentum over its bias correction. -/
theorem pay24_apply (x : Vec Ideal S48x1024 .i32) :
    k0_pay24 v6 v9 v350 v351 x (ix2 d l) = Ideal.div (k0_pay22 v6 v9 v350 v351 x (ix2 d l)) (Row.lit 0x3F7FFE42#32) := by
  pointwise [k0_pay24]

variable (w mh : FVec Ideal S96x1024 .f32) (v : FVec Ideal S1x1024 .f32)

/-- The new weight, from the old one, the second moment and the corrected momentum. -/
theorem pay25_apply :
    k0_pay25 w v mh (ix2 d l)
      = w (ix2 d l) - Ideal.div (Row.lit 0x3C23D70A#32 * mh (ix2 d l)) (Ideal.sqrt (Ideal.div (v (ix2 0 l)) (Row.lit 0x3DC2FC56#32)) + Row.lit 0x322BCC77#32) := by
  pointwise [k0_pay25]

/-- The new bias is the least weight of the lane. -/
theorem pay26_apply : k0_pay26 w v mh (ix2 0 l) = Row.rMin fun d => k0_pay25 w v mh (ix2 d l) := by
  pointwise [k0_pay26, Row.rMin]

/-- The new scale. -/
theorem pay27_apply : k0_pay27 w v mh (ix2 0 l) = Row.scale fun d => k0_pay25 w v mh (ix2 d l) := by
  pointwise [k0_pay27, Row.scale, Row.rMax, pay26_apply]

/-- The new codes. -/
theorem pay28_apply : k0_pay28 w v mh (ix2 d l) = Row.requant (fun d => k0_pay25 w v mh (ix2 d l)) (k0_pay25 w v mh (ix2 d l)) := by
  pointwise [k0_pay28, Row.requant, pay26_apply, pay27_apply]

/-- The rounding to bf16 changes nothing over the extended reals. -/
theorem pay29_apply : k0_pay29 w (ix2 d l) = w (ix2 d l) := by
  pointwise [k0_pay29]

end AtIndex

/-! ### The stored values, as one row's results -/

section Rows

variable (i : grid0.Coords) (v0 : Vec Ideal S1024x128 .f32) (v7 : Vec Ideal S32x128 .f32) (h : Fin 32 → BitVec 32)
  (q : Vec Ideal S24x1024 .i32) (mo : Vec Ideal S48x1024 .i32) (s b v : Vec Ideal S1x1024 .f32)

/-- The second moments a block's store leaves. -/
def vBlk {F : FTy → Type} [FloatOps F] (i : grid0.Coords) (v0 : Vec F S1024x128 .f32) (v7 : Vec F S32x128 .f32) (h : Fin 32 → BitVec 32)
    (v : Vec F S1x1024 .f32) : FVec F S1x1024 .f32 :=
  k0_pay23 (k0_pay1 i) (k0_pay2 v7) (gPrev i v0 v7 h) (h 31) v

/-- The first momentum of a block, before its rounding. -/
def mBlk {F : FTy → Type} [FloatOps F] (i : grid0.Coords) (v0 : Vec F S1024x128 .f32) (v7 : Vec F S32x128 .f32) (h : Fin 32 → BitVec 32)
    (mo : Vec F S48x1024 .i32) : FVec F S96x1024 .f32 :=
  k0_pay22 (k0_pay1 i) (k0_pay2 v7) (gPrev i v0 v7 h) (h 31) mo

/-- The corrected first momentum of a block. -/
def mhBlk {F : FTy → Type} [FloatOps F] (i : grid0.Coords) (v0 : Vec F S1024x128 .f32) (v7 : Vec F S32x128 .f32) (h : Fin 32 → BitVec 32)
    (mo : Vec F S48x1024 .i32) : FVec F S96x1024 .f32 :=
  k0_pay24 (k0_pay1 i) (k0_pay2 v7) (gPrev i v0 v7 h) (h 31) mo

/-- The data of lane `l` of the blocks is row `r` of the arguments. -/
structure IsRow (A0 : Vec Ideal S512 .i32) (A1 : Vec Ideal S24x36864 .i32) (A2 : Vec Ideal S48x36864 .i32) (A3 : Vec Ideal S37408x128 .f32)
    (A4 : Vec Ideal S3x36864 .f32) (l : Fin 1024) (r : Fin 36864) : Prop where
  num : BitVec.ofNat 32 l.val + BitVec.ofNat 32 (i 0).val * 1024#32 = BitVec.ofNat 32 r.val
  head : ∀ w : Fin 32, h w = A0 (ix1 ⟨16 * w.val, by omega⟩)
  codes : ∀ a : Fin 24, q (ix2 a l) = A1 (ix2 a r)
  moms : ∀ a : Fin 48, mo (ix2 a l) = A2 (ix2 a r)
  seg : ∀ d : Fin 128, v0 (ix2 l d) = A3 (ix2 ⟨r.val, by omega⟩ d)
  heads : ∀ (w : Fin 32) (d : Fin 128), v7 (ix2 w d) = A3 (ix2 ⟨36864 + w.val, by omega⟩ d)
  sc : s (ix2 0 l) = A4 (ix2 0 r)
  bi : b (ix2 0 l) = A4 (ix2 1 r)
  mo2 : v (ix2 0 l) = A4 (ix2 2 r)

variable {i v0 v7 h q mo s b v} {A0 : Vec Ideal S512 .i32} {A1 : Vec Ideal S24x36864 .i32} {A2 : Vec Ideal S48x36864 .i32}
  {A3 : Vec Ideal S37408x128 .f32} {A4 : Vec Ideal S3x36864 .f32} {l : Fin 1024} {r : Fin 36864}
  (H : IsRow i v0 v7 h q mo s b v A0 A1 A2 A3 A4 l r)

include H

theorem IsRow.grad (d : Fin 96) : k0_pay20 (k0_pay1 i) (k0_pay2 v7) (gPrev i v0 v7 h) (h 31) (ix2 d l) = Row.grad A0 A3 r d := by
  rw [grad_apply, H.num, H.seg]
  refine congrArg _ (Finset.sum_congr rfl fun w _ => ?_)
  rw [H.head, H.heads]

theorem IsRow.vNew : vBlk i v0 v7 h v (ix2 0 l) = Row.vOut A0 A3 A4 r := by
  unfold vBlk Row.vOut
  rw [pay23_apply, H.mo2]
  exact congrArg _ (funext fun d => H.grad d)

theorem IsRow.mNew (d : Fin 96) : mBlk i v0 v7 h mo (ix2 d l) = Row.momOut A0 A2 A3 r d := by
  unfold mBlk Row.momOut Row.mom
  rw [pay22_apply, H.grad, H.moms]

theorem IsRow.wNew (d : Fin 96) : k0_pay25 (k0_pay21 s b q) (vBlk i v0 v7 h v) (mhBlk i v0 v7 h mo) (ix2 d l) = Row.wOut A0 A1 A2 A3 A4 r d := by
  have hm := H.mNew d
  unfold mBlk at hm
  rw [pay25_apply, pay21_apply, H.vNew, H.codes, H.sc, H.bi]
  unfold mhBlk
  rw [pay24_apply, hm]
  rfl

theorem IsRow.bias : k0_pay26 (k0_pay21 s b q) (vBlk i v0 v7 h v) (mhBlk i v0 v7 h mo) (ix2 0 l) = Row.biasOut A0 A1 A2 A3 A4 r := by
  rw [pay26_apply]; exact congrArg Row.rMin (funext fun d => H.wNew d)

theorem IsRow.scale : k0_pay27 (k0_pay21 s b q) (vBlk i v0 v7 h v) (mhBlk i v0 v7 h mo) (ix2 0 l) = Row.scaleOut A0 A1 A2 A3 A4 r := by
  rw [pay27_apply]; exact congrArg Row.scale (funext fun d => H.wNew d)

theorem IsRow.code (d : Fin 96) : k0_pay28 (k0_pay21 s b q) (vBlk i v0 v7 h v) (mhBlk i v0 v7 h mo) (ix2 d l) = Row.codeOut A0 A1 A2 A3 A4 r d := by
  rw [pay28_apply, H.wNew]; exact congrArg (fun f => Row.requant f _) (funext fun d => H.wNew d)

theorem IsRow.mbf (d : Fin 96) : k0_pay29 (mBlk i v0 v7 h mo) (ix2 d l) = Row.momOut A0 A2 A3 r d := by
  rw [pay29_apply, H.mNew]

end Rows

end Cert.KernelIdeal.Gen

end
-- ==== Proof.KI.Out.lean ====
/- What the body leaves in each output's staging buffer, as the payloads of Grad over the input blocks: each output has one
   store, of the whole block; every load but the scalar rows' and the head words' is of a whole block. -/
module

public import proofs.«01_k».proof.Proof.KI.Frame
public import proofs.«01_k».proof.Proof.KI.Grad

@[expose] public section

set_option maxRecDepth 16384

noncomputable section

namespace Cert.KernelIdeal.Gen

open Idealize.ShloMosaic Idealize.ShloMosaic.TcCoe Idealize.ShloMosaic.Tactic

variable {F : FTy → Type} [FloatOps F]

/-- The head row of worker `w`: word `16 w` of the prefetched words. -/
def headWord {c : Dev nD} (xt0 : TbBuf0 (F := F) c tbM0_0) (w : Fin 32) : BitVec 32 :=
  (xt0 : Vec F S512 .i32) (ix1 ⟨16 * w.val, by omega⟩)

/-- Row `k` of the three scalar rows. -/
def scalRow (x4 : Vec F S3x1024 .f32) (k : Fin 3) : Vec F S1x1024 .f32 := fun y => x4 (ix2 k (y 1))

theorem hz2 : (![0, 0] : Fin 2 → Nat) = fun _ => 0 := funext fun a => by fin_cases a <;> rfl

/-- A scalar load of the prefetched words reads its word. -/
theorem word_at {c : Dev nD} (xt0 : TbBuf0 (F := F) c tbM0_0) (n : Nat) (hin) (p) :
    View.ld (View.read (Elt F) (View.whole main_arg0) xt0) (Rect.unit (s := S512) ![n] ![1] hin) (Shape.Idx.first p)
      = (xt0 : Vec F S512 .i32) (ix1 ⟨n, hin 0⟩) := by
  show (xt0 : Vec F S512 .i32) _ = _
  refine congrArg (xt0 : Vec F S512 .i32) (funext fun a => ?_)
  match a with
  | ⟨0, _⟩ => rfl

/-- A load of one of the three rows reads that row. -/
theorem row_at (x4 : Vec F S3x1024 .f32) (k : Nat) (hk : k < 3) (hin) :
    View.ld x4 (Rect.unit (s := S3x1024) ![k, 0] ![1, 1024] hin) = scalRow x4 ⟨k, hk⟩ := by
  funext y
  refine congrArg x4 (funext fun a => ?_)
  match a with
  | ⟨0, _⟩ => exact Fin.ext (by show k + 1 * (y 0).val = k; have : (y 0).val < 1 := (y 0).isLt; omega)
  | ⟨1, _⟩ => exact Fin.ext (by show 0 + 1 * (y 1).val = (y 1).val; omega)

/-- A load of a whole block of rank two reads the block. -/
theorem whole_at {e : EltTy} {a b : Nat} (x : Vec F ⟨2, ![a, b]⟩ e) (hin) :
    View.ld x (Rect.unit (s := ⟨2, ![a, b]⟩) ![0, 0] ![a, b] hin) = x := View.ld_unit_zero hz2 hin x

section Outs
variable (c : Dev nD) (i : grid0.Coords)
  (arg2 : Memref sig .tc .vmem S24x1024 .i32) (harg2 : arg2.IsWhole)
  (arg3 : Memref sig .tc .vmem S48x1024 .i32) (harg3 : arg3.IsWhole)
  (arg4 : Memref sig .tc .vmem S1024x128 .f32) (harg4 : arg4.IsWhole)
  (arg5 : Memref sig .tc .vmem S32x128 .f32) (harg5 : arg5.IsWhole)
  (arg6 : Memref sig .tc .vmem S3x1024 .f32) (harg6 : arg6.IsWhole)
  (arg7 : Memref sig .tc .vmem S96x1024 .i8) (harg7 : arg7.IsWhole)
  (arg8 : Memref sig .tc .vmem S96x1024 .bf16) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S1x1024 .f32) (harg11 : arg11.IsWhole)
  (x0 : Vec F S24x1024 .i32) (x1 : Vec F S48x1024 .i32) (x2 : Vec F S1024x128 .f32) (x3 : Vec F S32x128 .f32) (x4 : Vec F S3x1024 .f32) (xt0 : TbBuf0 (F := F) c tbM0_0)

/-- The second moments stored. -/
theorem out9_eq : out0_A_9 c i arg2 harg2 arg3 harg3 arg4 harg4 arg5 harg5 arg6 harg6 arg7 harg7 arg8 harg8 arg9 harg9 arg10 harg10 arg11 harg11 x0 x1 x2 x3 x4 xt0
    = (vBlk i x2 x3 (headWord xt0) (scalRow x4 2)) := by
  unfold out0_A_9
  rw [View.read_writes_junk_eq_canon]
  unfold kernelRun0_A
  sl_unfold_run_names
  refine (View.canon_unit_zero hz2 _ _).trans ?_
  simp only [View.readAt_eq_ld, harg2.read_unread, harg3.read_unread, harg4.read_unread, harg5.read_unread, harg6.read_unread]
  simp only [word_at, whole_at]
  rw [row_at x4 2 (by decide)]
  unfold vBlk gPrev headWord
  rfl

/-- The codes stored. -/
theorem out5_eq : out0_A_5 c i arg2 harg2 arg3 harg3 arg4 harg4 arg5 harg5 arg6 harg6 arg7 harg7 arg8 harg8 arg9 harg9 arg10 harg10 arg11 harg11 x0 x1 x2 x3 x4 xt0
    = k0_pay28 (k0_pay21 (scalRow x4 0) (scalRow x4 1) x0) (vBlk i x2 x3 (headWord xt0) (scalRow x4 2)) (mhBlk i x2 x3 (headWord xt0) x1) := by
  unfold out0_A_5
  rw [View.read_writes_junk_eq_canon]
  unfold kernelRun0_A
  sl_unfold_run_names
  refine (View.canon_unit_zero hz2 _ _).trans ?_
  simp only [View.readAt_eq_ld, harg2.read_unread, harg3.read_unread, harg4.read_unread, harg5.read_unread, harg6.read_unread]
  simp only [word_at, whole_at]
  rw [row_at x4 0 (by decide), row_at x4 1 (by decide), row_at x4 2 (by decide)]
  unfold vBlk mhBlk gPrev headWord
  rfl

/-- The first momentum stored. -/
theorem out6_eq : out0_A_6 c i arg2 harg2 arg3 harg3 arg4 harg4 arg5 harg5 arg6 harg6 arg7 harg7 arg8 harg8 arg9 harg9 arg10 harg10 arg11 harg11 x0 x1 x2 x3 x4 xt0
    = k0_pay29 (mBlk i x2 x3 (headWord xt0) x1) := by
  unfold out0_A_6
  rw [View.read_writes_junk_eq_canon]
  unfold kernelRun0_A
  sl_unfold_run_names
  refine (View.canon_unit_zero hz2 _ _).trans ?_
  simp only [View.readAt_eq_ld, harg2.read_unread, harg3.read_unread, harg4.read_unread, harg5.read_unread, harg6.read_unread]
  simp only [word_at, whole_at]
  unfold mBlk gPrev headWord
  rfl

/-- The scales stored. -/
theorem out7_eq : out0_A_7 c i arg2 harg2 arg3 harg3 arg4 harg4 arg5 harg5 arg6 harg6 arg7 harg7 arg8 harg8 arg9 harg9 arg10 harg10 arg11 harg11 x0 x1 x2 x3 x4 xt0
    = k0_pay27 (k0_pay21 (scalRow x4 0) (scalRow x4 1) x0) (vBlk i x2 x3 (headWord xt0) (scalRow x4 2)) (mhBlk i x2 x3 (headWord xt0) x1) := by
  unfold out0_A_7
  rw [View.read_writes_junk_eq_canon]
  unfold kernelRun0_A
  sl_unfold_run_names
  refine (View.canon_unit_zero hz2 _ _).trans ?_
  simp only [View.readAt_eq_ld, harg2.read_unread, harg3.read_unread, harg4.read_unread, harg5.read_unread, harg6.read_unread]
  simp only [word_at, whole_at]
  rw [row_at x4 0 (by decide), row_at x4 1 (by decide), row_at x4 2 (by decide)]
  unfold vBlk mhBlk gPrev headWord
  rfl

/-- The biases stored. -/
theorem out8_eq : out0_A_8 c i arg2 harg2 arg3 harg3 arg4 harg4 arg5 harg5 arg6 harg6 arg7 harg7 arg8 harg8 arg9 harg9 arg10 harg10 arg11 harg11 x0 x1 x2 x3 x4 xt0
    = k0_pay26 (k0_pay21 (scalRow x4 0) (scalRow x4 1) x0) (vBlk i x2 x3 (headWord xt0) (scalRow x4 2)) (mhBlk i x2 x3 (headWord xt0) x1) := by
  unfold out0_A_8
  rw [View.read_writes_junk_eq_canon]
  unfold kernelRun0_A
  sl_unfold_run_names
  refine (View.canon_unit_zero hz2 _ _).trans ?_
  simp only [View.readAt_eq_ld, harg2.read_unread, harg3.read_unread, harg4.read_unread, harg5.read_unread, harg6.read_unread]
  simp only [word_at, whole_at]
  rw [row_at x4 0 (by decide), row_at x4 1 (by decide), row_at x4 2 (by decide)]
  unfold vBlk mhBlk gPrev headWord
  rfl

end Outs

end Cert.KernelIdeal.Gen

end
-- ==== Proof.KI.Blocks.lean ====
/- The windows' blocks at an index: block `t` of the wide arguments is the 1024 columns from `1024 t`, block `t` of the
   segment sums is the 1024 rows from `1024 t`, the head block is the 32 rows from 36864 at every point. So lane `l` of point
   `t`'s blocks holds the data of row `1024 t + l`. -/
module

public import proofs.«01_k».proof.Proof.KI.Out
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic

/-! ## The index maps at the grid's points -/

theorem coord0 : ∀ t : Fin grid0.N, ((grid0.coords t) 0).val = t.val := by decide +kernel
theorem at_col : ∀ t : Fin grid0.N, cc0_transform_0 (grid0.coords t) = ![0, t.val] := by decide +kernel
theorem at_row : ∀ t : Fin grid0.N, cc0_transform_2 (grid0.coords t) = ![t.val, 0] := by decide +kernel
theorem at_head : ∀ t : Fin grid0.N, cc0_transform_3 (grid0.coords t) = ![1152, 0] := by decide +kernel

/-! ## The input blocks -/

variable (m : (ℓ : Loc nD τ sig) → Buf (Elt Ideal) ℓ) (hO : Ok m) (c : Dev nD)

/-- The arguments as the program finds them. -/
abbrev a0 : Vec Ideal S512 .i32 := m ((c : Thread nD τ).loc main_arg0)
abbrev a1 : Vec Ideal S24x36864 .i32 := m ((c : Thread nD τ).loc main_arg1)
abbrev a2 : Vec Ideal S48x36864 .i32 := m ((c : Thread nD τ).loc main_arg2)
abbrev a3 : Vec Ideal S37408x128 .f32 := m ((c : Thread nD τ).loc main_arg3)
abbrev a4 : Vec Ideal S3x36864 .f32 := m ((c : Thread nD τ).loc main_arg4)

/-- The row of lane `l` at point `t`. -/
def rowAt (t : Fin grid0.N) (l : Fin 1024) : Fin 36864 := ⟨1024 * t.val + l.val, by have : t.val < 35 := t.isLt; omega⟩

theorem blk0 (t : Fin grid0.N) (a : Fin 24) (l : Fin 1024) : iblk m hO c 0 t (ix2 a l) = a1 m c (ix2 a (rowAt t l)) := by
  have h := at_col t
  refine congrArg (a1 m c) (funext fun k => Fin.ext ?_)
  match k with
  | ⟨0, _⟩ =>
    show cc0_transform_0 (grid0.coords t) 0 * 24 + 1 * a.val = a.val
    rw [h]; show 0 * 24 + 1 * a.val = a.val; omega
  | ⟨1, _⟩ =>
    show cc0_transform_0 (grid0.coords t) 1 * 1024 + 1 * l.val = 1024 * t.val + l.val
    rw [h]; show t.val * 1024 + 1 * l.val = _; omega

theorem blk1 (t : Fin grid0.N) (a : Fin 48) (l : Fin 1024) : iblk m hO c 1 t (ix2 a l) = a2 m c (ix2 a (rowAt t l)) := by
  have h := at_col t
  refine congrArg (a2 m c) (funext fun k => Fin.ext ?_)
  match k with
  | ⟨0, _⟩ =>
    show cc0_transform_0 (grid0.coords t) 0 * 48 + 1 * a.val = a.val
    rw [h]; show 0 * 48 + 1 * a.val = a.val; omega
  | ⟨1, _⟩ =>
    show cc0_transform_0 (grid0.coords t) 1 * 1024 + 1 * l.val = 1024 * t.val + l.val
    rw [h]; show t.val * 1024 + 1 * l.val = _; omega

theorem blk2 (t : Fin grid0.N) (l : Fin 1024) (d : Fin 128) :
    X0_2 m hO c t (ix2 l d) = a3 m c (ix2 ⟨(rowAt t l).val, by omega⟩ d) := by
  have h := at_row t
  refine Eq.trans (dif_pos (moved0_2 m hO t (ix2 l d))) ?_
  refine congrArg (a3 m c) (funext fun k => Fin.ext ?_)
  match k with
  | ⟨0, _⟩ =>
    show cc0_transform_2 (grid0.coords t) 0 * 1024 + 1 * l.val = 1024 * t.val + l.val
    rw [h]; show t.val * 1024 + 1 * l.val = _; omega
  | ⟨1, _⟩ =>
    show cc0_transform_2 (grid0.coords t) 1 * 128 + 1 * d.val = d.val
    rw [h]; show 0 * 128 + 1 * d.val = d.val; omega

theorem blk3 (t : Fin grid0.N) (w : Fin 32) (d : Fin 128) :
    iblk m hO c 3 t (ix2 w d) = a3 m c (ix2 ⟨36864 + w.val, by omega⟩ d) := by
  have h := at_head t
  refine congrArg (a3 m c) (funext fun k => Fin.ext ?_)
  match k with
  | ⟨0, _⟩ =>
    show cc0_transform_3 (grid0.coords t) 0 * 32 + 1 * w.val = 36864 + w.val
    rw [h]; show 1152 * 32 + 1 * w.val = _; omega
  | ⟨1, _⟩ =>
    show cc0_transform_3 (grid0.coords t) 1 * 128 + 1 * d.val = d.val
    rw [h]; show 0 * 128 + 1 * d.val = d.val; omega

theorem blk4 (t : Fin grid0.N) (k : Fin 3) (l : Fin 1024) :
    scalRow (iblk m hO c 4 t) k (ix2 0 l) = a4 m c (ix2 k (rowAt t l)) := by
  have h := at_col t
  refine congrArg (a4 m c) (funext fun j => Fin.ext ?_)
  match j with
  | ⟨0, _⟩ =>
    show cc0_transform_0 (grid0.coords t) 0 * 3 + 1 * k.val = k.val
    rw [h]; show 0 * 3 + 1 * k.val = k.val; omega
  | ⟨1, _⟩ =>
    show cc0_transform_0 (grid0.coords t) 1 * 1024 + 1 * l.val = 1024 * t.val + l.val
    rw [h]; show t.val * 1024 + 1 * l.val = _; omega

theorem head0 (w : Fin 32) : headWord (c := c) (tbl m 0) w = a0 m c (ix1 ⟨16 * w.val, by omega⟩) := by
  obtain rfl : c = 0 := Subsingleton.elim _ _
  rfl

/-- Lane `l` of point `t`'s blocks is row `1024 t + l` of the arguments. -/
theorem isRow (t : Fin grid0.N) (l : Fin 1024) :
    IsRow (grid0.coords t) (X0_2 m hO c t) (iblk m hO c 3 t) (headWord (c := c) (tbl m 0)) (iblk m hO c 0 t) (iblk m hO c 1 t)
      (scalRow (iblk m hO c 4 t) 0) (scalRow (iblk m hO c 4 t) 1) (scalRow (iblk m hO c 4 t) 2)
      (a0 m c) (a1 m c) (a2 m c) (a3 m c) (a4 m c) l (rowAt t l) where
  num := by
    rw [coord0 t]
    have : t.val < 35 := t.isLt
    apply BitVec.eq_of_toNat_eq
    simp only [BitVec.toNat_add, BitVec.toNat_mul, BitVec.toNat_ofNat, rowAt]
    omega
  head w := head0 m c w
  codes a := blk0 m hO c t a l
  moms a := blk1 m hO c t a l
  seg d := blk2 m hO c t l d
  heads w d := blk3 m hO c t w d
  sc := blk4 m hO c t 0 l
  bi := blk4 m hO c t 1 l
  mo2 := blk4 m hO c t 2 l

end Cert.KernelIdeal.Gen

end
-- ==== Proof.KI.Arrays.lean ====
/- The output arrays after the run, at an index: column `r` of each is what point `r / 1024` left in lane `r mod 1024` of its
   block, so row `r`'s result. The last point's block overhangs the array; what it writes back is cut at the array's end. -/
module

public import proofs.«01_k».proof.Proof.KI.Blocks
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ) (hO : Ok m) (c : Dev nD)

/-- How far the write-backs reach: 1024 columns, or what is left of the 35108. -/
theorem reach : ∀ t : Fin grid0.N, ∀ l : Fin 1, (clip0_5 (grid0.coords t) 0).extent 96 = 96
    ∧ (clip0_5 (grid0.coords t) 1).extent 1024 = min 1024 (35108 - 1024 * t.val)
    ∧ (clip0_7 (grid0.coords t) 0).extent 1 = 1
    ∧ (clip0_7 (grid0.coords t) 1).extent 1024 = min 1024 (35108 - 1024 * t.val) := by decide +kernel

/-- Different points write different blocks. -/
theorem col_inj (t t' : Fin grid0.N) (h : cc0_transform_0 (grid0.coords t) = cc0_transform_0 (grid0.coords t')) : t = t' := by
  have h1 := congrFun h 1
  rw [at_col t, at_col t'] at h1
  exact Fin.ext h1

/-- The point and the lane of row `r`. -/
def ptOf (r : Fin 35108) : Fin grid0.N := ⟨r.val / 1024, by show r.val / 1024 < 35; omega⟩
def laneOf (r : Fin 35108) : Fin 1024 := ⟨r.val % 1024, by omega⟩
/-- Row `r` among the padded rows. -/
def wide (r : Fin 35108) : Fin 36864 := ⟨r.val, by omega⟩
theorem rowAt_pt (r : Fin 35108) : rowAt (ptOf r) (laneOf r) = wide r :=
  Fin.ext (by show 1024 * (r.val / 1024) + r.val % 1024 = r.val; omega)

theorem left5 (t : Fin grid0.N) (l : Fin 1024) (d : Fin 96) : (outsAt0 m hO c t).1 (ix2 d l) = Row.codeOut (a0 m c) (a1 m c) (a2 m c) (a3 m c) (a4 m c) (rowAt t l) d := by
  unfold outsAt0
  dsimp only
  refine Eq.trans (congrFun (out5_eq _ _ _ _ _ _ _ _ _ _ _ _ _ _ _ _ _ _ _ _ _ _ _ _ _ _ _ _) _) ?_
  exact (isRow m hO c t l).code d

/-- The array of the codes (window 5). -/
theorem arr5 (r : Fin 35108) (d : Fin 96) : (dats m hO 0 c).arrAt 5 (cfgM m hO).N (ix2 d r) = Row.codeOut (a0 m c) (a1 m c) (a2 m c) (a3 m c) (a4 m c) (wide r) d := by
  obtain ⟨hx0, hx1, -, -⟩ := reach (ptOf r) 0
  have hlt : ∀ a, ((ix2 d (laneOf r) : S96x1024.Idx) a).val < ((cfgM m hO).win 5).xsize ((cfgM m hO).grid.coords (ptOf r)) a := fun a => by
    match a with
    | ⟨0, _⟩ => exact lt_of_lt_of_eq (d).isLt hx0.symm
    | ⟨1, _⟩ => exact lt_of_lt_of_eq (by show r.val % 1024 < min 1024 (35108 - 1024 * (r.val / 1024)); omega) hx1.symm
  have h := (dats m hO 0 c).arrAt_emb_eq_flushed 5
    (Pipeline.Window.hdisj_of_index_inj _ fun t t' _ _ e => col_inj t t' e) (ptOf r) (flush0_5 _ _) (fun a => ⟨_, hlt a⟩)
  have he : (((cfgM m hO).win 5).blk (ptOf r)).view.emb (fun a => ⟨_, hlt a⟩) = (ix2 d r : S96x35108.Idx) := by
    funext k
    refine Fin.ext ?_
    have h := at_col (ptOf r)
    match k with
    | ⟨0, _⟩ =>
      show cc0_transform_0 (grid0.coords (ptOf r)) 0 * 96 + 1 * (d).val = (d).val
      rw [h]; show 0 * 96 + 1 * (d).val = (d).val; omega
    | ⟨1, _⟩ =>
      show cc0_transform_0 (grid0.coords (ptOf r)) 1 * 1024 + 1 * (r.val % 1024) = r.val
      rw [h]; show r.val / 1024 * 1024 + 1 * (r.val % 1024) = r.val; omega
  rw [he] at h
  refine h.trans ?_
  have ha : (dats m hO 0 c).flushed 5 (ptOf r) (fun a => ⟨_, hlt a⟩) = (outsAt0 m hO c (ptOf r)).1 (ix2 d (laneOf r)) := by
    show (dats m hO 0 c).after 5 (ptOf r) _ = _
    rw [after0_5]
    rfl
  refine ha.trans ?_
  rw [← rowAt_pt]
  exact left5 m hO c (ptOf r) (laneOf r) d

theorem left6 (t : Fin grid0.N) (l : Fin 1024) (d : Fin 96) : (outsAt0 m hO c t).2.1 (ix2 d l) = Row.momOut (a0 m c) (a2 m c) (a3 m c) (rowAt t l) d := by
  unfold outsAt0
  dsimp only
  refine Eq.trans (congrFun (out6_eq _ _ _ _ _ _ _ _ _ _ _ _ _ _ _ _ _ _ _ _ _ _ _ _ _ _ _ _) _) ?_
  exact (isRow m hO c t l).mbf d

/-- The array of the momentum (window 6). -/
theorem arr6 (r : Fin 35108) (d : Fin 96) : (dats m hO 0 c).arrAt 6 (cfgM m hO).N (ix2 d r) = Row.momOut (a0 m c) (a2 m c) (a3 m c) (wide r) d := by
  obtain ⟨hx0, hx1, -, -⟩ := reach (ptOf r) 0
  have hlt : ∀ a, ((ix2 d (laneOf r) : S96x1024.Idx) a).val < ((cfgM m hO).win 6).xsize ((cfgM m hO).grid.coords (ptOf r)) a := fun a => by
    match a with
    | ⟨0, _⟩ => exact lt_of_lt_of_eq (d).isLt hx0.symm
    | ⟨1, _⟩ => exact lt_of_lt_of_eq (by show r.val % 1024 < min 1024 (35108 - 1024 * (r.val / 1024)); omega) hx1.symm
  have h := (dats m hO 0 c).arrAt_emb_eq_flushed 6
    (Pipeline.Window.hdisj_of_index_inj _ fun t t' _ _ e => col_inj t t' e) (ptOf r) (flush0_6 _ _) (fun a => ⟨_, hlt a⟩)
  have he : (((cfgM m hO).win 6).blk (ptOf r)).view.emb (fun a => ⟨_, hlt a⟩) = (ix2 d r : S96x35108.Idx) := by
    funext k
    refine Fin.ext ?_
    have h := at_col (ptOf r)
    match k with
    | ⟨0, _⟩ =>
      show cc0_transform_0 (grid0.coords (ptOf r)) 0 * 96 + 1 * (d).val = (d).val
      rw [h]; show 0 * 96 + 1 * (d).val = (d).val; omega
    | ⟨1, _⟩ =>
      show cc0_transform_0 (grid0.coords (ptOf r)) 1 * 1024 + 1 * (r.val % 1024) = r.val
      rw [h]; show r.val / 1024 * 1024 + 1 * (r.val % 1024) = r.val; omega
  rw [he] at h
  refine h.trans ?_
  have ha : (dats m hO 0 c).flushed 6 (ptOf r) (fun a => ⟨_, hlt a⟩) = (outsAt0 m hO c (ptOf r)).2.1 (ix2 d (laneOf r)) := by
    show (dats m hO 0 c).after 6 (ptOf r) _ = _
    rw [after0_6]
    rfl
  refine ha.trans ?_
  rw [← rowAt_pt]
  exact left6 m hO c (ptOf r) (laneOf r) d

theorem left7 (t : Fin grid0.N) (l : Fin 1024)  : (outsAt0 m hO c t).2.2.1 (ix2 (0 : Fin 1) l) = Row.scaleOut (a0 m c) (a1 m c) (a2 m c) (a3 m c) (a4 m c) (rowAt t l) := by
  unfold outsAt0
  dsimp only
  refine Eq.trans (congrFun (out7_eq _ _ _ _ _ _ _ _ _ _ _ _ _ _ _ _ _ _ _ _ _ _ _ _ _ _ _ _) _) ?_
  exact (isRow m hO c t l).scale

/-- The array of the scales (window 7). -/
theorem arr7 (r : Fin 35108)  : (dats m hO 0 c).arrAt 7 (cfgM m hO).N (ix2 (0 : Fin 1) r) = Row.scaleOut (a0 m c) (a1 m c) (a2 m c) (a3 m c) (a4 m c) (wide r) := by
  obtain ⟨-, -, hx0, hx1⟩ := reach (ptOf r) 0
  have hlt : ∀ a, ((ix2 (0 : Fin 1) (laneOf r) : S1x1024.Idx) a).val < ((cfgM m hO).win 7).xsize ((cfgM m hO).grid.coords (ptOf r)) a := fun a => by
    match a with
    | ⟨0, _⟩ => exact lt_of_lt_of_eq ((0 : Fin 1)).isLt hx0.symm
    | ⟨1, _⟩ => exact lt_of_lt_of_eq (by show r.val % 1024 < min 1024 (35108 - 1024 * (r.val / 1024)); omega) hx1.symm
  have h := (dats m hO 0 c).arrAt_emb_eq_flushed 7
    (Pipeline.Window.hdisj_of_index_inj _ fun t t' _ _ e => col_inj t t' e) (ptOf r) (flush0_7 _ _) (fun a => ⟨_, hlt a⟩)
  have he : (((cfgM m hO).win 7).blk (ptOf r)).view.emb (fun a => ⟨_, hlt a⟩) = (ix2 (0 : Fin 1) r : S1x35108.Idx) := by
    funext k
    refine Fin.ext ?_
    have h := at_col (ptOf r)
    match k with
    | ⟨0, _⟩ =>
      show cc0_transform_0 (grid0.coords (ptOf r)) 0 * 1 + 1 * ((0 : Fin 1)).val = ((0 : Fin 1)).val
      rw [h]; show 0 * 1 + 1 * ((0 : Fin 1)).val = ((0 : Fin 1)).val; omega
    | ⟨1, _⟩ =>
      show cc0_transform_0 (grid0.coords (ptOf r)) 1 * 1024 + 1 * (r.val % 1024) = r.val
      rw [h]; show r.val / 1024 * 1024 + 1 * (r.val % 1024) = r.val; omega
  rw [he] at h
  refine h.trans ?_
  have ha : (dats m hO 0 c).flushed 7 (ptOf r) (fun a => ⟨_, hlt a⟩) = (outsAt0 m hO c (ptOf r)).2.2.1 (ix2 (0 : Fin 1) (laneOf r)) := by
    show (dats m hO 0 c).after 7 (ptOf r) _ = _
    rw [after0_7]
    rfl
  refine ha.trans ?_
  rw [← rowAt_pt]
  exact left7 m hO c (ptOf r) (laneOf r)

theorem left8 (t : Fin grid0.N) (l : Fin 1024)  : (outsAt0 m hO c t).2.2.2.1 (ix2 (0 : Fin 1) l) = Row.biasOut (a0 m c) (a1 m c) (a2 m c) (a3 m c) (a4 m c) (rowAt t l) := by
  unfold outsAt0
  dsimp only
  refine Eq.trans (congrFun (out8_eq _ _ _ _ _ _ _ _ _ _ _ _ _ _ _ _ _ _ _ _ _ _ _ _ _ _ _ _) _) ?_
  exact (isRow m hO c t l).bias

/-- The array of the biases (window 8). -/
theorem arr8 (r : Fin 35108)  : (dats m hO 0 c).arrAt 8 (cfgM m hO).N (ix2 (0 : Fin 1) r) = Row.biasOut (a0 m c) (a1 m c) (a2 m c) (a3 m c) (a4 m c) (wide r) := by
  obtain ⟨-, -, hx0, hx1⟩ := reach (ptOf r) 0
  have hlt : ∀ a, ((ix2 (0 : Fin 1) (laneOf r) : S1x1024.Idx) a).val < ((cfgM m hO).win 8).xsize ((cfgM m hO).grid.coords (ptOf r)) a := fun a => by
    match a with
    | ⟨0, _⟩ => exact lt_of_lt_of_eq ((0 : Fin 1)).isLt hx0.symm
    | ⟨1, _⟩ => exact lt_of_lt_of_eq (by show r.val % 1024 < min 1024 (35108 - 1024 * (r.val / 1024)); omega) hx1.symm
  have h := (dats m hO 0 c).arrAt_emb_eq_flushed 8
    (Pipeline.Window.hdisj_of_index_inj _ fun t t' _ _ e => col_inj t t' e) (ptOf r) (flush0_8 _ _) (fun a => ⟨_, hlt a⟩)
  have he : (((cfgM m hO).win 8).blk (ptOf r)).view.emb (fun a => ⟨_, hlt a⟩) = (ix2 (0 : Fin 1) r : S1x35108.Idx) := by
    funext k
    refine Fin.ext ?_
    have h := at_col (ptOf r)
    match k with
    | ⟨0, _⟩ =>
      show cc0_transform_0 (grid0.coords (ptOf r)) 0 * 1 + 1 * ((0 : Fin 1)).val = ((0 : Fin 1)).val
      rw [h]; show 0 * 1 + 1 * ((0 : Fin 1)).val = ((0 : Fin 1)).val; omega
    | ⟨1, _⟩ =>
      show cc0_transform_0 (grid0.coords (ptOf r)) 1 * 1024 + 1 * (r.val % 1024) = r.val
      rw [h]; show r.val / 1024 * 1024 + 1 * (r.val % 1024) = r.val; omega
  rw [he] at h
  refine h.trans ?_
  have ha : (dats m hO 0 c).flushed 8 (ptOf r) (fun a => ⟨_, hlt a⟩) = (outsAt0 m hO c (ptOf r)).2.2.2.1 (ix2 (0 : Fin 1) (laneOf r)) := by
    show (dats m hO 0 c).after 8 (ptOf r) _ = _
    rw [after0_8]
    rfl
  refine ha.trans ?_
  rw [← rowAt_pt]
  exact left8 m hO c (ptOf r) (laneOf r)

theorem left9 (t : Fin grid0.N) (l : Fin 1024)  : (outsAt0 m hO c t).2.2.2.2 (ix2 (0 : Fin 1) l) = Row.vOut (a0 m c) (a3 m c) (a4 m c) (rowAt t l) := by
  unfold outsAt0
  dsimp only
  refine Eq.trans (congrFun (out9_eq _ _ _ _ _ _ _ _ _ _ _ _ _ _ _ _ _ _ _ _ _ _ _ _ _ _ _ _) _) ?_
  exact (isRow m hO c t l).vNew

/-- The array of the second moments (window 9). -/
theorem arr9 (r : Fin 35108)  : (dats m hO 0 c).arrAt 9 (cfgM m hO).N (ix2 (0 : Fin 1) r) = Row.vOut (a0 m c) (a3 m c) (a4 m c) (wide r) := by
  obtain ⟨-, -, hx0, hx1⟩ := reach (ptOf r) 0
  have hlt : ∀ a, ((ix2 (0 : Fin 1) (laneOf r) : S1x1024.Idx) a).val < ((cfgM m hO).win 9).xsize ((cfgM m hO).grid.coords (ptOf r)) a := fun a => by
    match a with
    | ⟨0, _⟩ => exact lt_of_lt_of_eq ((0 : Fin 1)).isLt hx0.symm
    | ⟨1, _⟩ => exact lt_of_lt_of_eq (by show r.val % 1024 < min 1024 (35108 - 1024 * (r.val / 1024)); omega) hx1.symm
  have h := (dats m hO 0 c).arrAt_emb_eq_flushed 9
    (Pipeline.Window.hdisj_of_index_inj _ fun t t' _ _ e => col_inj t t' e) (ptOf r) (flush0_9 _ _) (fun a => ⟨_, hlt a⟩)
  have he : (((cfgM m hO).win 9).blk (ptOf r)).view.emb (fun a => ⟨_, hlt a⟩) = (ix2 (0 : Fin 1) r : S1x35108.Idx) := by
    funext k
    refine Fin.ext ?_
    have h := at_col (ptOf r)
    match k with
    | ⟨0, _⟩ =>
      show cc0_transform_0 (grid0.coords (ptOf r)) 0 * 1 + 1 * ((0 : Fin 1)).val = ((0 : Fin 1)).val
      rw [h]; show 0 * 1 + 1 * ((0 : Fin 1)).val = ((0 : Fin 1)).val; omega
    | ⟨1, _⟩ =>
      show cc0_transform_0 (grid0.coords (ptOf r)) 1 * 1024 + 1 * (r.val % 1024) = r.val
      rw [h]; show r.val / 1024 * 1024 + 1 * (r.val % 1024) = r.val; omega
  rw [he] at h
  refine h.trans ?_
  have ha : (dats m hO 0 c).flushed 9 (ptOf r) (fun a => ⟨_, hlt a⟩) = (outsAt0 m hO c (ptOf r)).2.2.2.2 (ix2 (0 : Fin 1) (laneOf r)) := by
    show (dats m hO 0 c).after 9 (ptOf r) _ = _
    rw [after0_9]
    rfl
  refine ha.trans ?_
  rw [← rowAt_pt]
  exact left9 m hO c (ptOf r) (laneOf r)

end Cert.KernelIdeal.Gen

end
-- ==== Proof.KI.Results.lean ====
/- The program's results, at an index: the host's transposes and reshapes after the region, read over the output arrays. -/
module

public import proofs.«01_k».proof.Proof.KI.Arrays
public import Idealize.ShloMosaic.Lib.Pointwise

@[expose] public section

set_option maxRecDepth 16384

noncomputable section

namespace Cert.KernelIdeal.Gen

open Idealize.ShloMosaic Idealize.ShloMosaic.TcCoe Idealize.ShloMosaic.Tactic

/-! ## The host's operations at an index -/

theorem transpose_at {e : EltTy} (x : Vec Ideal S96x35108 e) (r : Fin 35108) (d : Fin 96) :
    transpose S35108x96 [1, 0] x transposes_S96x35108_S35108x96_1_0 (ix2 r d) = x (ix2 d r) := by
  pointwise
theorem flat_at {e : EltTy} (x : Vec Ideal S1x35108 e) (r : Fin 35108) :
    shapeCast S35108 x shapeCasts_S1x35108_S35108 (ix1 r) = x (ix2 0 r) := by
  pointwise

variable (m : (ℓ : Loc nD τ sig) → Buf (Elt Ideal) ℓ) (hO : Ok m) (c : Dev nD)

/-- What the program leaves in buffer `b`. -/
abbrev left (b : Ref sig .tc) : Buf (Elt Ideal) ((c.tc : Thread nD τ).loc b) :=
  Pipeline.afterTail pcfgs (fun _ => adm m hO) (dats m hO) 0 (V0 m) [hostOps1] c b

/-- Two windows on one buffer are the two input windows of the segment sums, which hold what the region found. -/
theorem shared_at : ∀ w w' : Fin 10, w ≠ w' → Pipeline.arrRef spec0 w = Pipeline.arrRef spec0 w' →
    (dats m hO 0 c).arrAt w (cfgM m hO).N = V0 m c (Proc.devRef .tc (Pipeline.arrRef spec0 w)) := by
  intro w w' hne he
  have hw : w = 2 ∨ w = 3 := (by decide : ∀ w w' : Fin 10, w ≠ w' → Pipeline.arrRef spec0 w = Pipeline.arrRef spec0 w' → w = 2 ∨ w = 3) w w' hne he
  rcases hw with rfl | rfl
  · exact ((dats m hO 0 c).arrAt_in 2 rfl _).trans (A_eq m hO c 2)
  · exact ((dats m hO 0 c).arrAt_in 3 rfl _).trans (A_eq m hO c 3)

/-- The region's exit contents at a window's array. -/
theorem exit_at (w : Fin 10) :
    Pipeline.withArrays spec0 c (V0 m c) (fun w => (dats m hO 0 c).arrAt w (cfgM m hO).N) (Proc.devRef .tc (Pipeline.arrRef spec0 w))
      = (dats m hO 0 c).arrAt w (cfgM m hO).N :=
  Pipeline.withArrays_arr_shared spec0 c (V0 m c) _ (shared_at m hO c) w

/-- The output arrays after the region. -/
def qArr : Vec Ideal S96x35108 .i8 := (dats m hO 0 c).arrAt 5 (cfgM m hO).N
def mArr : Vec Ideal S96x35108 .bf16 := (dats m hO 0 c).arrAt 6 (cfgM m hO).N
def sArr : Vec Ideal S1x35108 .f32 := (dats m hO 0 c).arrAt 7 (cfgM m hO).N
def bArr : Vec Ideal S1x35108 .f32 := (dats m hO 0 c).arrAt 8 (cfgM m hO).N
def vArr : Vec Ideal S1x35108 .f32 := (dats m hO 0 c).arrAt 9 (cfgM m hO).N

theorem left_v1 : left m hO c main_v1 = transpose S35108x96 [1, 0] (qArr m hO c) transposes_S96x35108_S35108x96_1_0 := by
  unfold qArr
  rw [← exit_at m hO c 5]
  unfold left Pipeline.afterTail
  simp only [hostOps1, List.flatten_cons, List.flatten_nil, List.append_nil]
  after_results_simp
theorem out_v1 (r : Fin 35108) (d : Fin 96) : (left m hO c main_v1 : Vec Ideal S35108x96 .i8) (ix2 r d) = Row.codeOut (a0 m c) (a1 m c) (a2 m c) (a3 m c) (a4 m c) (wide r) d := by
  rw [left_v1]
  exact (transpose_at _ r d).trans (arr5 m hO c r d)

theorem left_v2 : left m hO c main_v2 = shapeCast S35108 (sArr m hO c) shapeCasts_S1x35108_S35108 := by
  unfold sArr
  rw [← exit_at m hO c 7]
  unfold left Pipeline.afterTail
  simp only [hostOps1, List.flatten_cons, List.flatten_nil, List.append_nil]
  after_results_simp
  rfl
theorem out_v2 (r : Fin 35108) : (left m hO c main_v2 : Vec Ideal S35108 .f32) (ix1 r) = Row.scaleOut (a0 m c) (a1 m c) (a2 m c) (a3 m c) (a4 m c) (wide r) := by
  rw [left_v2]
  exact (flat_at _ r).trans (arr7 m hO c r)

theorem left_v3 : left m hO c main_v3 = shapeCast S35108 (bArr m hO c) shapeCasts_S1x35108_S35108 := by
  unfold bArr
  rw [← exit_at m hO c 8]
  unfold left Pipeline.afterTail
  simp only [hostOps1, List.flatten_cons, List.flatten_nil, List.append_nil]
  after_results_simp
  rfl
theorem out_v3 (r : Fin 35108) : (left m hO c main_v3 : Vec Ideal S35108 .f32) (ix1 r) = Row.biasOut (a0 m c) (a1 m c) (a2 m c) (a3 m c) (a4 m c) (wide r) := by
  rw [left_v3]
  exact (flat_at _ r).trans (arr8 m hO c r)

theorem left_v4 : left m hO c main_v4 = transpose S35108x96 [1, 0] (mArr m hO c) transposes_S96x35108_S35108x96_1_0 := by
  unfold mArr
  rw [← exit_at m hO c 6]
  unfold left Pipeline.afterTail
  simp only [hostOps1, List.flatten_cons, List.flatten_nil, List.append_nil]
  after_results_simp
theorem out_v4 (r : Fin 35108) (d : Fin 96) : (left m hO c main_v4 : Vec Ideal S35108x96 .bf16) (ix2 r d) = Row.momOut (a0 m c) (a2 m c) (a3 m c) (wide r) d := by
  rw [left_v4]
  exact (transpose_at _ r d).trans (arr6 m hO c r d)

theorem left_v5 : left m hO c main_v5 = shapeCast S35108 (vArr m hO c) shapeCasts_S1x35108_S35108 := by
  unfold vArr
  rw [← exit_at m hO c 9]
  unfold left Pipeline.afterTail
  simp only [hostOps1, List.flatten_cons, List.flatten_nil, List.append_nil]
  after_results_simp
  rfl
theorem out_v5 (r : Fin 35108) : (left m hO c main_v5 : Vec Ideal S35108 .f32) (ix1 r) = Row.vOut (a0 m c) (a3 m c) (a4 m c) (wide r) := by
  rw [left_v5]
  exact (flat_at _ r).trans (arr9 m hO c r)

end Cert.KernelIdeal.Gen

end
-- ==== Proof.Ref.Stages.lean ====
/- The reference's results in stages: each quantity of the update as one vector expression over the quantities before it,
   and the theorem that the terms its run leaves are the last stages. -/
module

public import proofs.«01_k».proof.Proof.Gen.ReferenceIdeal.Run

@[expose] public section

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The codes as bytes. -/
def vCode (x1 : (⟨S24x36864, .i32⟩ : BufTy).Contents (Elt F)) : (⟨S35108x96, .i8⟩ : BufTy).Contents (Elt F) :=
  shapeCast _ (Host.bitcastConvertNarrow S35108x24x4 8 (transpose S35108x24 [1, 0] (extractStridedSlice S24x35108 ![0, 0] (x1) slices_S24x36864_S24x35108_0_0) transposes_S24x35108_S35108x24_1_0) splits_S35108x24_w32_S35108x24x4_w8) shapeCasts_S35108x24x4_S35108x96

/-- The momentum as bf16 numbers. -/
def vMom (x2 : (⟨S48x36864, .i32⟩ : BufTy).Contents (Elt F)) : (⟨S35108x96, .bf16⟩ : BufTy).Contents (Elt F) :=
  shapeCast _ (bitcastToFloat (F := F) .bf16 (Host.bitcastConvertNarrow S35108x48x2 16 (transpose S35108x48 [1, 0] (extractStridedSlice S48x35108 ![0, 0] (x2) slices_S48x36864_S48x35108_0_0) transposes_S48x35108_S35108x48_1_0) splits_S35108x48_w32_S35108x48x2_w16)) shapeCasts_S35108x48x2_S35108x96

/-- The rows' scales. -/
def vScale0 (x4 : (⟨S3x36864, .f32⟩ : BufTy).Contents (Elt F)) : (⟨S35108, .f32⟩ : BufTy).Contents (Elt F) :=
  shapeCast _ (extractStridedSlice S1x35108 ![0, 0] (x4) slices_S3x36864_S1x35108_0_0) shapeCasts_S1x35108_S35108

/-- The rows' biases. -/
def vBias0 (x4 : (⟨S3x36864, .f32⟩ : BufTy).Contents (Elt F)) : (⟨S35108, .f32⟩ : BufTy).Contents (Elt F) :=
  shapeCast _ (extractStridedSlice S1x35108 ![1, 0] (x4) slices_S3x36864_S1x35108_1_0) shapeCasts_S1x35108_S35108

/-- The rows' second moments. -/
def vV0 (x4 : (⟨S3x36864, .f32⟩ : BufTy).Contents (Elt F)) : (⟨S35108, .f32⟩ : BufTy).Contents (Elt F) :=
  shapeCast _ (extractStridedSlice S1x35108 ![2, 0] (x4) slices_S3x36864_S1x35108_2_0) shapeCasts_S1x35108_S35108

/-- The gradients. -/
def vGrad (x0 : (⟨S512, .i32⟩ : BufTy).Contents (Elt F)) (x3 : (⟨S37408x128, .f32⟩ : BufTy).Contents (Elt F)) : (⟨S35108x96, .f32⟩ : BufTy).Contents (Elt F) :=
  addf (extractStridedSlice S35108x96 ![0, 0] (x3) slices_S37408x128_S35108x96_0_0) (Host.reduceAdd (select (broadcastInDim S35108x32x96 ![0, 1, 2] bcast_S35108x32x1_S35108x32x96_0_1_2 (cmpi .eq (broadcastInDim S35108x32x1 ![0, 1, 2] bcast_S35108x1x1_S35108x32x1_0_1_2 (broadcastInDim S35108x1x1 ![0] bcast_S35108_S35108x1x1_0 (iotaInDim S35108 32 0))) (broadcastInDim S35108x32x1 ![0, 1, 2] bcast_S1x32x1_S35108x32x1_0_1_2 (broadcastInDim S1x32x1 ![1, 2] bcast_S32x1_S1x32x1_1_2 (extractStridedSlice S32x1 ![0, 0] (shapeCast _ (x0) shapeCasts_S512_S32x16) slices_S32x16_S32x1_0_0))))) (broadcastInDim S35108x32x96 ![0, 1, 2] bcast_S1x32x96_S35108x32x96_0_1_2 (broadcastInDim S1x32x96 ![1, 2] bcast_S32x96_S1x32x96_1_2 (extractStridedSlice S32x96 ![36864, 0] (x3) slices_S37408x128_S32x96_36864_0))) (broadcastInDim S35108x32x96 ![] bcast_S_S35108x32x96 (id (constant S_ .f32 0x00000000#32)))) (constant S_ .f32 0x00000000#32) reducesTo_S35108x32x96_S35108x96_d1 h_S_)

/-- The dequantised weights. -/
def vW0 (x1 : (⟨S24x36864, .i32⟩ : BufTy).Contents (Elt F)) (x4 : (⟨S3x36864, .f32⟩ : BufTy).Contents (Elt F)) : (⟨S35108x96, .f32⟩ : BufTy).Contents (Elt F) :=
  addf (mulf (sitofp .f32 (extui 32 (vCode (F := F) x1) natLt_8_32)) (broadcastInDim S35108x96 ![0, 1] bcast_S35108x1_S35108x96_0_1 (broadcastInDim S35108x1 ![0] bcast_S35108_S35108x1_0 (vScale0 (F := F) x4)))) (broadcastInDim S35108x96 ![0, 1] bcast_S35108x1_S35108x96_0_1 (broadcastInDim S35108x1 ![0] bcast_S35108_S35108x1_0 (vBias0 (F := F) x4)))

/-- The new first momentum. -/
def vM (x0 : (⟨S512, .i32⟩ : BufTy).Contents (Elt F)) (x2 : (⟨S48x36864, .i32⟩ : BufTy).Contents (Elt F)) (x3 : (⟨S37408x128, .f32⟩ : BufTy).Contents (Elt F)) : (⟨S35108x96, .f32⟩ : BufTy).Contents (Elt F) :=
  addf (mulf (broadcastInDim S35108x96 ![] bcast_S_S35108x96 (constant S_ .f32 0x3F666666#32)) (extf .f32 (vMom (F := F) x2) bitsLt_bf16_f32)) (mulf (broadcastInDim S35108x96 ![] bcast_S_S35108x96 (constant S_ .f32 0x3DCCCCCD#32)) (vGrad (F := F) x0 x3))

/-- The new second moment. -/
def vV (x0 : (⟨S512, .i32⟩ : BufTy).Contents (Elt F)) (x3 : (⟨S37408x128, .f32⟩ : BufTy).Contents (Elt F)) (x4 : (⟨S3x36864, .f32⟩ : BufTy).Contents (Elt F)) : (⟨S35108, .f32⟩ : BufTy).Contents (Elt F) :=
  addf (mulf (broadcastInDim S35108 ![] bcast_S_S35108 (constant S_ .f32 0x3F7FBE77#32)) (vV0 (F := F) x4)) (mulf (broadcastInDim S35108 ![] bcast_S_S35108 (constant S_ .f32 0x3A83126F#32)) (Host.divf (Host.reduceAdd (mulf (vGrad (F := F) x0 x3) (vGrad (F := F) x0 x3)) (constant S_ .f32 0x00000000#32) reducesTo_S35108x96_S35108_d1 h_S_) (broadcastInDim S35108 ![] bcast_S_S35108 (constant S_ .f32 0x42C00000#32))))

/-- The new weights. -/
def vW (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108x96, .f32⟩ : BufTy).Contents (Elt F) :=
  subf (vW0 (F := F) x1 x4) (Host.divf (mulf (broadcastInDim S35108x96 ![] bcast_S_S35108x96 (constant S_ .f32 0x3C23D70A#32)) (Host.divf (vM (F := F) x0 x2 x3) (broadcastInDim S35108x96 ![] bcast_S_S35108x96 (constant S_ .f32 0x3F7FFE42#32)))) (broadcastInDim S35108x96 ![0, 1] bcast_S35108x1_S35108x96_0_1 (broadcastInDim S35108x1 ![0] bcast_S35108_S35108x1_0 (addf (Host.sqrt (Host.divf (vV (F := F) x0 x3 x4) (broadcastInDim S35108 ![] bcast_S_S35108 (constant S_ .f32 0x3DC2FC56#32)))) (broadcastInDim S35108 ![] bcast_S_S35108 (constant S_ .f32 0x322BCC77#32))))))

/-- The least entry of each row. -/
def vMin (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108, .f32⟩ : BufTy).Contents (Elt F) :=
  Host.reduce FloatOps.minimumf (vW (F := F) x0 x1 x2 x3 x4) (constant S_ .f32 0x7F800000#32) reducesTo_S35108x96_S35108_d1 h_S_

/-- The greatest entry of each row. -/
def vMax (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108, .f32⟩ : BufTy).Contents (Elt F) :=
  Host.reduce FloatOps.maximumf (vW (F := F) x0 x1 x2 x3 x4) (constant S_ .f32 0xFF800000#32) reducesTo_S35108x96_S35108_d1 h_S_

/-- The new scales. -/
def vScale (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108, .f32⟩ : BufTy).Contents (Elt F) :=
  select (cmpf .oeq (vMax (F := F) x0 x1 x2 x3 x4) (vMin (F := F) x0 x1 x2 x3 x4)) (broadcastInDim S35108 ![] bcast_S_S35108 (constant S_ .f32 0x3F800000#32)) (Host.divf (subf (vMax (F := F) x0 x1 x2 x3 x4) (vMin (F := F) x0 x1 x2 x3 x4)) (broadcastInDim S35108 ![] bcast_S_S35108 (constant S_ .f32 0x437F0000#32)))

/-- The new codes. -/
def vCodes (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108x96, .i8⟩ : BufTy).Contents (Elt F) :=
  id (trunci 8 (fptosi 32 (minimumf (broadcastInDim S35108x96 ![] bcast_S_S35108x96 (id (constant S_ .f32 0x437F0000#32))) (maximumf (broadcastInDim S35108x96 ![] bcast_S_S35108x96 (id (constant S_ .f32 0x00000000#32))) (Host.roundeven (Host.divf (subf (vW (F := F) x0 x1 x2 x3 x4) (broadcastInDim S35108x96 ![0, 1] bcast_S35108x1_S35108x96_0_1 (broadcastInDim S35108x1 ![0] bcast_S35108_S35108x1_0 (vMin (F := F) x0 x1 x2 x3 x4)))) (broadcastInDim S35108x96 ![0, 1] bcast_S35108x1_S35108x96_0_1 (broadcastInDim S35108x1 ![0] bcast_S35108_S35108x1_0 (vScale (F := F) x0 x1 x2 x3 x4)))))))) natLt_8_32)

/-- The new scales, as returned. -/
def vScale1 (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108, .f32⟩ : BufTy).Contents (Elt F) :=
  id (vScale (F := F) x0 x1 x2 x3 x4)

/-- The new biases, as returned. -/
def vBias1 (x0 : (⟨S512, .i32⟩ : BufTy).Contents (Elt F)) (x1 : (⟨S24x36864, .i32⟩ : BufTy).Contents (Elt F)) (x2 : (⟨S48x36864, .i32⟩ : BufTy).Contents (Elt F)) (x3 : (⟨S37408x128, .f32⟩ : BufTy).Contents (Elt F)) (x4 : (⟨S3x36864, .f32⟩ : BufTy).Contents (Elt F)) : (⟨S35108, .f32⟩ : BufTy).Contents (Elt F) :=
  id (vMin (F := F) x0 x1 x2 x3 x4)

/-- The new first momentum, rounded to bf16. -/
def vMbf (x0 : (⟨S512, .i32⟩ : BufTy).Contents (Elt F)) (x2 : (⟨S48x36864, .i32⟩ : BufTy).Contents (Elt F)) (x3 : (⟨S37408x128, .f32⟩ : BufTy).Contents (Elt F)) : (⟨S35108x96, .bf16⟩ : BufTy).Contents (Elt F) :=
  truncf .bf16 (vM (F := F) x0 x2 x3) bitsLt_bf16_f32

variable (m : (ℓ : Loc nD τ sig) → Buf (Elt F) ℓ) (ρ : Dev nD → PrngReg)

/-- The run of the reference: each result is its stage of the arguments, which stay as they were. -/
theorem run :
    θ_run defs (onTc (τ := τ) (main (F := F))) ⟨m, fun _ => 0, ρ⟩ fun r => ∀ c : Dev nD,
      r.2.mem ((c.tc : Thread nD τ).loc main_v81_0) = vCodes (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v81_1) = vScale (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v81_2) = vMin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v82) = vMbf (m ((c.tc : Thread nD τ).loc main_arg0)) (m ((c.tc : Thread nD τ).loc main_arg2)) (m ((c.tc : Thread nD τ).loc main_arg3))
      ∧ r.2.mem ((c.tc : Thread nD τ).loc main_v50) = vV (m ((c.tc : Thread nD τ).loc main_arg0)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_) (Cert.ReferenceIdeal.Value.run m ρ)
  obtain ⟨h0, h1, h2, h3, h4, h5⟩ := h c
  refine ⟨h0.trans ?_, h1.trans ?_, h2.trans ?_, h3, h4, h5⟩
  · unfold Cert.ReferenceIdeal.Value.res_main_v81_0 vCodes; rfl
  · unfold Cert.ReferenceIdeal.Value.res_main_v81_1 vScale; rfl
  · refine Eq.trans (b := vBias1 _ _ _ _ _) ?_ (by unfold vBias1; exact id_eq _)
    unfold Cert.ReferenceIdeal.Value.res_main_v81_2 vBias1 vMin; rfl

end Cert.ReferenceIdeal.Stages

end
-- ==== Proof.Ref.Rows.lean ====
/- The reference's results at a row are that row's results (`Row`). -/
module

public import proofs.«01_k».proof.Proof.Ref.Stages
public import proofs.«01_k».proof.Proof.Row
public import Idealize.ShloMosaic.Lib.BitcastConvert

@[expose] public section

noncomputable section

namespace Cert.ReferenceIdeal.Stages

open Cert.ReferenceIdeal Cert.ReferenceIdeal.Gen Idealize.ShloMosaic

variable (x0 : Vec Ideal S512 .i32) (x1 : Vec Ideal S24x36864 .i32) (x2 : Vec Ideal S48x36864 .i32) (x3 : Vec Ideal S37408x128 .f32)
  (x4 : Vec Ideal S3x36864 .f32) (r : Fin 35108) (d : Fin 96)

/-- The row as a row of the argument arrays. -/
abbrev up (r : Fin 35108) : Fin 36864 := ⟨r.val, by omega⟩

theorem vCode_apply : vCode (F := Ideal) x1 (ix2 r d) = Row.code x1 (up r) d := by
  pointwise [vCode, Row.code]
  rw [Nat.mul_comm]

theorem vMom_apply : vMom (F := Ideal) x2 (ix2 r d) = Row.mom x2 (up r) d := by
  pointwise [vMom, Row.mom]
  rw [Nat.mul_comm]

theorem vScale0_apply : vScale0 (F := Ideal) x4 (ix1 r) = x4 (ix2 0 (up r)) := by
  pointwise [vScale0]
theorem vBias0_apply : vBias0 (F := Ideal) x4 (ix1 r) = x4 (ix2 1 (up r)) := by
  pointwise [vBias0]
theorem vV0_apply : vV0 (F := Ideal) x4 (ix1 r) = x4 (ix2 2 (up r)) := by
  pointwise [vV0]
theorem vGrad_apply : vGrad (F := Ideal) x0 x3 (ix2 r d) = Row.grad x0 x3 (up r) d := by
  pointwise [vGrad, Row.grad, Row.headTerm, id_eq]
  simp only [Nat.mul_comm]

theorem vM_apply : vM (F := Ideal) x0 x2 x3 (ix2 r d) = Row.momOut x0 x2 x3 (up r) d := by
  pointwise [vM, Row.momOut, Row.mNew, vMom_apply, vGrad_apply]
theorem vV_apply : vV (F := Ideal) x0 x3 x4 (ix1 r) = Row.vOut x0 x3 x4 (up r) := by
  pointwise [vV, Row.vOut, Row.vNew, vV0_apply, vGrad_apply]
theorem vW0_apply : vW0 (F := Ideal) x1 x4 (ix2 r d) = FloatOps.sitofp (F := Ideal) .f32 (BitVec.setWidth 32 (Row.code x1 (up r) d)) * x4 (ix2 0 (up r)) + x4 (ix2 1 (up r)) := by
  pointwise [vW0, vCode_apply, vScale0_apply, vBias0_apply]
theorem vW_apply : vW (F := Ideal) x0 x1 x2 x3 x4 (ix2 r d) = Row.wOut x0 x1 x2 x3 x4 (up r) d := by
  pointwise [vW, Row.wOut, Row.wNew, vW0_apply, vM_apply, vV_apply]
theorem vMin_apply : vMin (F := Ideal) x0 x1 x2 x3 x4 (ix1 r) = Row.biasOut x0 x1 x2 x3 x4 (up r) := by
  pointwise [vMin, Row.biasOut, Row.rMin, vW_apply]
theorem vMax_apply : vMax (F := Ideal) x0 x1 x2 x3 x4 (ix1 r) = Row.rMax (Row.wOut x0 x1 x2 x3 x4 (up r)) := by
  pointwise [vMax, Row.rMax, vW_apply]

/-- The scale from any rows' greatest and least entries. -/
theorem scale_of (a b : FVec Ideal S35108 .f32) :
    select (cmpf .oeq a b) (broadcastInDim S35108 ![] bcast_S_S35108 (constant S_ .f32 0x3F800000#32)) (Host.divf (subf a b) (broadcastInDim S35108 ![] bcast_S_S35108 (constant S_ .f32 0x437F0000#32))) (ix1 r)
      = if a (ix1 r) = b (ix1 r) then (1 : EReal) else Ideal.div (a (ix1 r) - b (ix1 r)) (Row.lit 0x437F0000#32) := by
  pointwise

theorem vScale_apply : vScale (F := Ideal) x0 x1 x2 x3 x4 (ix1 r) = Row.scaleOut x0 x1 x2 x3 x4 (up r) := by
  unfold vScale Row.scaleOut Row.scale
  refine (scale_of r _ _).trans ?_
  rw [vMax_apply, vMin_apply]; rfl

/-- The codes of any weights, biases and scales. -/
theorem codes_of (w : FVec Ideal S35108x96 .f32) (b s : FVec Ideal S35108 .f32) :
    trunci 8 (fptosi 32 (minimumf (broadcastInDim S35108x96 ![] bcast_S_S35108x96 (id (constant S_ .f32 0x437F0000#32))) (maximumf (broadcastInDim S35108x96 ![] bcast_S_S35108x96 (id (constant S_ .f32 0x00000000#32))) (Host.roundeven (Host.divf (subf w (broadcastInDim S35108x96 ![0, 1] bcast_S35108x1_S35108x96_0_1 (broadcastInDim S35108x1 ![0] bcast_S35108_S35108x1_0 b))) (broadcastInDim S35108x96 ![0, 1] bcast_S35108x1_S35108x96_0_1 (broadcastInDim S35108x1 ![0] bcast_S35108_S35108x1_0 s))))))) natLt_8_32 (ix2 r d)
      = BitVec.setWidth 8 (FloatOps.fptosi (F := Ideal) (φ := .f32) 32
          (min (Row.lit 0x437F0000#32) (max 0 (Ideal.liftRound Ideal.roundHalfEven (Ideal.div (w (ix2 r d) - b (ix1 r)) (s (ix1 r))))))) := by
  pointwise [id_eq]

theorem vCodes_apply : vCodes (F := Ideal) x0 x1 x2 x3 x4 (ix2 r d) = Row.codeOut x0 x1 x2 x3 x4 (up r) d := by
  unfold vCodes Row.codeOut Row.requant
  refine (codes_of r d _ _ _).trans ?_
  rw [vW_apply, vMin_apply, vScale_apply]; rfl

theorem vMbf_apply : vMbf (F := Ideal) x0 x2 x3 (ix2 r d) = Row.momOut x0 x2 x3 (up r) d := by
  pointwise [vMbf, vM_apply]

end Cert.ReferenceIdeal.Stages

end
-- ==== Proof.Algebraic.lean ====
/- The value claim over the extended reals: entry by entry, the kernel's results and the reference's are the same results of
   the same row (`Row`) of the arguments. -/
module

public import proofs.«01_k».proof.Defs
public import proofs.«01_k».proof.Proof.KI.Results
public import proofs.«01_k».proof.Proof.Ref.Rows

@[expose] public section

noncomputable section

namespace Cert.Proof

open Idealize.ShloMosaic Idealize.SL.Sem Cert.KernelIdeal.Gen

/-- Two arrays of rank two that agree at every pair of coordinates are equal. -/
theorem ext2 {α : Type} {a b : Nat} {f g : (⟨2, ![a, b]⟩ : Shape).Idx → α} (h : ∀ r d, f (ix2 r d) = g (ix2 r d)) : f = g := by
  funext y
  have hy : y = ix2 (y 0) (y 1) := by funext k; match k with | ⟨0, _⟩ => rfl | ⟨1, _⟩ => rfl
  rw [hy]; exact h _ _
/-- Two arrays of rank one that agree at every coordinate are equal. -/
theorem ext1 {α : Type} {a : Nat} {f g : (⟨1, ![a]⟩ : Shape).Idx → α} (h : ∀ r, f (ix1 r) = g (ix1 r)) : f = g := by
  funext y
  have hy : y = ix1 (y 0) := by funext k; match k with | ⟨0, _⟩ => rfl
  rw [hy]; exact h _

theorem algebraic : Cert.algebraic_KernelIdeal_ReferenceIdeal := by
  intro m g m' g' _ hagree
  have hO : Ok m := trivial
  refine ⟨fun c => left m hO c Cert.KernelIdeal.main_v1, fun c => left m hO c Cert.KernelIdeal.main_v2,
    fun c => left m hO c Cert.KernelIdeal.main_v3, fun c => left m hO c Cert.KernelIdeal.main_v4,
    fun c => left m hO c Cert.KernelIdeal.main_v5, ?_, ?_⟩
  · have hk := frame_of m g hO (dats m hO) (A_eq m hO) (run_main m g hO)
    refine (θ_run Cert.KernelIdeal.defs _ _).mono (fun _ h c => ?_) (θ_run_and (run_main m g hO) hk)
    exact ⟨(h.1 c).2 Cert.KernelIdeal.main_v1 (by decide : Cert.KernelIdeal.main_v1 ∈ Pipeline.restRefs Cert.KernelIdeal.sig Cert.KernelIdeal.spec0),
      (h.1 c).2 Cert.KernelIdeal.main_v2 (by decide : Cert.KernelIdeal.main_v2 ∈ Pipeline.restRefs Cert.KernelIdeal.sig Cert.KernelIdeal.spec0),
      (h.1 c).2 Cert.KernelIdeal.main_v3 (by decide : Cert.KernelIdeal.main_v3 ∈ Pipeline.restRefs Cert.KernelIdeal.sig Cert.KernelIdeal.spec0),
      (h.1 c).2 Cert.KernelIdeal.main_v4 (by decide : Cert.KernelIdeal.main_v4 ∈ Pipeline.restRefs Cert.KernelIdeal.sig Cert.KernelIdeal.spec0),
      (h.1 c).2 Cert.KernelIdeal.main_v5 (by decide : Cert.KernelIdeal.main_v5 ∈ Pipeline.restRefs Cert.KernelIdeal.sig Cert.KernelIdeal.spec0), h.2 c⟩
  · refine (θ_run Cert.ReferenceIdeal.defs _ _).mono (fun _ h c => ?_) (Cert.ReferenceIdeal.Stages.run m' g')
    obtain ⟨h0, h1, h2, h3, h4, hk⟩ := h c
    obtain ⟨e0, e1, e2, e3, e4⟩ := hagree c
    rw [e0, e1, e2, e3, e4] at h0 h1 h2
    rw [e0, e2, e3] at h3
    rw [e0, e3, e4] at h4
    refine ⟨h0.trans ?_, h1.trans ?_, h2.trans ?_, h3.trans ?_, h4.trans ?_, hk⟩
    · exact ext2 fun r d => (Cert.ReferenceIdeal.Stages.vCodes_apply _ _ _ _ _ r d).trans (out_v1 m hO c r d).symm
    · exact ext1 fun r => (Cert.ReferenceIdeal.Stages.vScale_apply _ _ _ _ _ r).trans (out_v2 m hO c r).symm
    · exact ext1 fun r => (Cert.ReferenceIdeal.Stages.vMin_apply _ _ _ _ _ r).trans (out_v3 m hO c r).symm
    · exact ext2 fun r d => (Cert.ReferenceIdeal.Stages.vMbf_apply _ _ _ r d).trans (out_v4 m hO c r d).symm
    · exact ext1 fun r => (Cert.ReferenceIdeal.Stages.vV_apply _ _ _ r).trans (out_v5 m hO c r).symm

end Cert.Proof

end
-- ==== Proof.C.Chain.lean ====
/-
One trip of the gather's loop, as mathematics: the 32 tiles of a chunk are tried in order, each by one gather and one
selection, and an entry ends as the word of the one tile that its row lies in, or as it was if there is none.
-/
module

public import proofs.«01_k».proof.Proof.Gen.Codes.Skeleton
public import Idealize.ShloMosaic.Lib.Pipeline.Value
public import Idealize.ShloMosaic.Lib.Pipeline.Kit
public import proofs.«01_k».proof.Proof.Gen.Codes.Launch
public import Idealize.ShloMosaic.Lib.ValueIdxCore
public import Idealize.ShloMosaic.Lib.BitcastFour

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The words of a tile of codes: rows `4a … 4a+3` of a column are the bytes of word `a`. -/
def words (L : IVec S96x128 8) : IVec S24x128 32 :=
  bitcast S24x128 32 (shapeCast S96x128 L shapeCasts_S96x128_S96x128) bitcasts_S96x128_w8_S24x128_w32

/-- The lanes as the gather is given them: a negative one has 128 added. -/
def laneIdx (lane : IVec S8x128 32) : IVec S8x128 32 :=
  shapeCast S8x128 (shapeCast S8x128x1
    (select (cmpi .slt lane (broadcast S8x128 0#32)) (addi lane (broadcast S8x128 128#32)) lane) shapeCasts_S8x128_S8x128x1)
    shapeCasts_S8x128x1_S8x128

/-- Tile `n` tried: where the wanted tile is `n`, the word at the wanted lane; elsewhere what was there. -/
def step (o : ℕ) (h : S24x128.Slices ![o, 0] S8x128) (lane tile : IVec S8x128 32) (L : IVec S96x128 8) (n : ℕ)
    (prev : IVec S8x128 32) : IVec S8x128 32 :=
  select (cmpi .eq tile (broadcast S8x128 (BitVec.ofNat 32 n)))
    (dynamicGather 1 (extractStridedSlice S8x128 ![o, 0] (words L) h) (laneIdx lane)) prev

/-- The first `n` tiles tried, one after another. -/
def chain (o : ℕ) (h : S24x128.Slices ![o, 0] S8x128) (lane tile : IVec S8x128 32) (L : Fin 32 → IVec S96x128 8)
    (base : IVec S8x128 32) : (n : ℕ) → n ≤ 32 → IVec S8x128 32
  | 0, _ => base
  | n + 1, hn => step o h lane tile (L ⟨n, hn⟩) n (chain o h lane tile L base n (Nat.le_of_succ_le hn))

/-- A lane from 0 to 127 is given to the gather as it is. -/
theorem laneIdx_apply (lane : IVec S8x128 32) (x : S8x128.Idx) (hx : (lane x).toNat < 128) : laneIdx lane x = lane x := by
  unfold laneIdx
  rw [shapeCast_shapeCast]
  show Scalar.select (IntOp.cmpi .slt (lane x) 0#32) _ _ = _
  have e : IntOp.cmpi .slt (lane x) 0#32 = 0#1 := by
    have : (lane x).slt 0#32 = false := by
      rw [BitVec.slt_eq_decide, decide_eq_false_iff_not]
      have : (lane x).toInt = (lane x).toNat := BitVec.toInt_eq_toNat_of_lt (by omega)
      rw [this]; simp
    simp only [IntOp.cmpi, this]; rfl
  rw [e]; rfl

/-- An entry after the first `n` tiles: the word of its tile if that is among them, else the entry as it was. -/
theorem chain_apply (o : ℕ) (h : S24x128.Slices ![o, 0] S8x128) (ho : o + 8 ≤ 24) (lane tile : IVec S8x128 32) (L : Fin 32 → IVec S96x128 8)
    (base : IVec S8x128 32) (x : S8x128.Idx) (hx : (lane x).toNat < 128) (n : ℕ) (hn : n ≤ 32) :
    chain o h lane tile L base n hn x
      = if ht : (tile x).toNat < n then
          words (L ⟨(tile x).toNat, Nat.lt_of_lt_of_le ht hn⟩) (ix2 (⟨o + (x 0).val, by have : (x 0).val < 8 := (x 0).isLt; omega⟩ : Fin 24) (⟨(lane x).toNat, hx⟩ : Fin 128))
        else base x := by
  induction n with
  | zero => rfl
  | succ n ih =>
    show Scalar.select (IntOp.cmpi .eq (tile x) (BitVec.ofNat 32 n)) _ _ = _
    rw [ih]
    by_cases hc : (tile x).toNat = n
    · have e : tile x = BitVec.ofNat 32 n := by apply BitVec.eq_of_toNat_eq; rw [BitVec.toNat_ofNat, hc]; exact (Nat.mod_eq_of_lt (by omega)).symm
      have e' : IntOp.cmpi .eq (tile x) (BitVec.ofNat 32 n) = 1#1 := by rw [e]; simp [IntOp.cmpi]
      rw [e']
      have hlt : (tile x).toNat < n + 1 := by omega
      rw [dif_pos hlt]
      have hL : (⟨n, hn⟩ : Fin 32) = ⟨(tile x).toNat, Nat.lt_of_lt_of_le hlt hn⟩ := Fin.ext hc.symm
      rw [hL]
      show words _ _ = words _ _
      congr 1
      funext a
      match a with
      | ⟨0, _⟩ => rfl
      | ⟨1, _⟩ =>
        apply Fin.ext
        show 0 + (laneIdx lane x).toNat % 128 = (lane x).toNat
        rw [laneIdx_apply lane x hx]; omega
    · have e' : IntOp.cmpi .eq (tile x) (BitVec.ofNat 32 n) = 0#1 := by
        have : tile x ≠ BitVec.ofNat 32 n := fun e => hc (by rw [e, BitVec.toNat_ofNat]; exact Nat.mod_eq_of_lt (by omega))
        simp only [IntOp.cmpi, beq_eq_false_iff_ne.mpr this]; rfl
      rw [e']
      show (dite _ _ _) = _
      by_cases hlt : (tile x).toNat < n
      · rw [dif_pos hlt, dif_pos (by omega)]
      · rw [dif_neg hlt, dif_neg (by omega)]

end Cert.Codes.Gen

end
-- ==== Proof.C.Trip.lean ====
/-
One trip of the gather's loop run: from the chunk, the rows and the result so far to the result with one group of 128
columns gathered, up to the loop's call of itself.
-/
module

public import proofs.«01_k».proof.Proof.C.Chain
public import proofs.«01_k».proof.Proof.Gen.Codes.Loops

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

theorem tile_inb (k : Fin 32) : ∀ a, (![0, 128 * k.val] : Fin 2 → ℕ) a + S96x128.size a ≤ S96x4096.size a := by
  intro a; have := k.isLt
  match a with
  | ⟨0, _⟩ => show 0 + 96 ≤ 96; omega
  | ⟨1, _⟩ => show 128 * k.val + 128 ≤ 4096; omega

/-- Tile `k` of the chunk, as the trip loads it. -/
def tileOf (arg4 : Memref sig .tc .vmem S96x4096 .i8) (c : Dev nD) (f4 : Buf (Elt F) (arg4.view.loc (c : Thread nD τ))) (k : Fin 32) : IVec S96x128 8 :=
  View.readAt (Elt F) arg4.view (Rect.unit (s := S96x4096) ![0, 128 * k.val] S96x128.size (tile_inb k)).toLoadRect f4

/-- A load of 128 columns of a band of 8 rows of the result. -/
abbrev ld5 (arg5 : Memref sig .tc .vmem S24x36864 .i32) (c : Dev nD) (f5 : Buf (Elt F) (arg5.view.loc (c : Thread nD τ)))
    (off : Fin 2 → ℕ) (h : ∀ a, off a + S8x128.size a ≤ S24x36864.size a) : IVec S8x128 32 :=
  shapeCast S8x128 (View.readAt (Elt F) arg5.view (Rect.unit (s := S24x36864) off S8x128.size h).toLoadRect f5 : S8x128.Idx → BitVec 32) shapeCasts_S8x128_S8x128

/-- The row numbers of group `g`, as the trip loads them. -/
abbrev ld3 (arg3 : Memref sig .tc .vmem S275x1x128 .i32) (c : Dev nD) (f3 : Buf (Elt F) (arg3.view.loc (c : Thread nD τ)))
    (g : BitVec 32) (h2 : k0_chk2 g) : Vec F S1x1x128 .i32 :=
  View.readAt (Elt F) arg3.view (Rect.unit (s := S275x1x128) (k0_off3 g) S1x1x128.size (k0_off3_inb g h2)).toLoadRect f3

/-- The word at entry `g` of a table. -/
abbrev ldT (arg : Memref sig .tc .smem S283 .i32) (c : Dev nD) (t : Buf (Elt F) (arg.view.loc (c : Thread nD τ)))
    (off : Fin 1 → ℕ) (h : ∀ a, off a + S1.size a ≤ S283.size a) : BitVec 32 :=
  View.readAt (Elt F) arg.view (Rect.unit (s := S283) off S1.size h).toLoadRect t (Shape.Idx.first (Nat.lt_of_lt_of_eq Nat.zero_lt_one numel1_S1.symm))

/-- The first row of the chunk's first tile, counted in tiles. -/
abbrev base0 (i : grid0.Coords) : BitVec 32 := Scalar.muli (BitVec.ofNat 32 (i 0).val) 32#32

set_option maxHeartbeats 4000000 in
/-- The trip run, its loop's condition holding: the three bands of group `g` are stored, and the loop calls itself at the
    next group, or at the same one with the flag set. What is stored is the run's own finding. -/
def tripRun (𝒱 : Variants) (c : Dev nD) (bd : Option 𝒱.V) (E : Set ℕ) (i : grid0.Coords) (arg1 : Memref sig .tc .smem S283 .i32) (harg1 : arg1.IsWhole) (arg3 : Memref sig .tc .vmem S275x1x128 .i32) (harg3 : arg3.IsWhole) (arg5 : Memref sig .tc .vmem S24x36864 .i32) (harg5 : arg5.IsWhole) (arg4 : Memref sig .tc .vmem S96x4096 .i8) (harg4 : arg4.IsWhole) (arg2 : Memref sig .tc .smem S283 .i32) (harg2 : arg2.IsWhole) (g : BitVec 32) (stop : BitVec 1)
    (t1 : Buf (Elt F) (arg1.view.loc (c : Thread nD τ))) (t2 : Buf (Elt F) (arg2.view.loc (c : Thread nD τ)))
    (q : PosShare TreeShare)
    (f3 : Buf (Elt F) (arg3.view.loc (c : Thread nD τ))) (f4 : Buf (Elt F) (arg4.view.loc (c : Thread nD τ))) (f5 : Buf (Elt F) (arg5.view.loc (c : Thread nD τ)))
    (h1 : k0_chk1 g) (h2 : k0_chk2 g)
    (hc : Scalar.andi (Scalar.xori stop 1#1) (Scalar.cmpi .slt (ldT arg1 c t1 (k0_off2 g) (k0_off2_inb g h1)) (Scalar.addi (base0 i) 32#32)) = 1#1) :
    { w : (S8x128.Idx → BitVec 32) × (S8x128.Idx → BitVec 32) × (S8x128.Idx → BitVec 32) // ∀ (K : BitVec 32 × BitVec 1 → sProp 𝕄),
    iprop((arg1.view.loc (c : Thread nD τ) ↦{q} t1) ∗ (arg2.view.loc (c : Thread nD τ) ↦{q} t2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5)
      ∗ (iprop((arg1.view.loc (c : Thread nD τ) ↦{q} t1) ∗ (arg2.view.loc (c : Thread nD τ) ↦{q} t2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} arg5.view.writes (Elt F) f5
              [⟨Rect.unit (k0_off6 g) S8x128.size (k0_off6_inb g h2), w.2.2⟩,
               ⟨Rect.unit (k0_off5 g) S8x128.size (k0_off5_inb g h2), w.2.1⟩,
               ⟨Rect.unit (k0_off4 g) S8x128.size (k0_off4_inb g h2), w.1⟩]))
         -∗ wp frame (wpE (defs₀ (F := F)) 𝒱 (c : Thread nD τ) bd) E (.op (.call (1 : (Λ₀ F).Label) ⟨i, arg1, harg1, arg3, harg3, arg5, harg5, arg4, harg4, arg2, harg2,
             Scalar.addi g (Scalar.select (Scalar.cmpi .slt (ldT arg2 c t2 (k0_off7 g) (k0_off7_inb g h2)) (Scalar.addi (base0 i) 32#32)) 1#32 0#32),
             Scalar.xori (Scalar.cmpi .slt (ldT arg2 c t2 (k0_off7 g) (k0_off7_inb g h2)) (Scalar.addi (base0 i) 32#32)) 1#1⟩) Prog.ret) K))
    ⊢ wp frame (wpE (defs₀ (F := F)) 𝒱 (c : Thread nD τ) bd) E (cc0_while1 i arg1 harg1 arg3 harg3 arg5 harg5 arg4 harg4 arg2 harg2 g stop) K } := by
  refine ⟨⟨?_, ?_, ?_⟩, fun K => ?run⟩
  case run =>
    simp only [cc0_while1_eq_skeleton]; unfold cc0_while1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    iintro ⟨H1, H2, H3, H4, H5, HP⟩
    sl_exec
    unfold tripRun.sl.r_141
    iapply HP
    isplitl [H1]; · iexact H1
    isplitl [H2]; · iexact H2
    isplitl [H3]; · iexact H3
    isplitl [H4]; · iexact H4
    iexact H5

end Cert.Codes.Gen

end
-- ==== Proof.C.TripValue.lean ====
/-
What one trip of the gather's loop stores: in each band the 32 tiles of the chunk tried in order.
-/
module

public import proofs.«01_k».proof.Proof.C.Trip

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

set_option maxHeartbeats 4000000 in
theorem tripRun_low (𝒱 : Variants) (c : Dev nD) (bd : Option 𝒱.V) (E : Set ℕ) (i : grid0.Coords) (arg1 : Memref sig .tc .smem S283 .i32) (harg1 : arg1.IsWhole) (arg3 : Memref sig .tc .vmem S275x1x128 .i32) (harg3 : arg3.IsWhole) (arg5 : Memref sig .tc .vmem S24x36864 .i32) (harg5 : arg5.IsWhole) (arg4 : Memref sig .tc .vmem S96x4096 .i8) (harg4 : arg4.IsWhole) (arg2 : Memref sig .tc .smem S283 .i32) (harg2 : arg2.IsWhole) (g : BitVec 32) (stop : BitVec 1)
    (t1 : Buf (Elt F) (arg1.view.loc (c : Thread nD τ))) (t2 : Buf (Elt F) (arg2.view.loc (c : Thread nD τ)))
    (q : PosShare TreeShare)
    (f3 : Buf (Elt F) (arg3.view.loc (c : Thread nD τ))) (f4 : Buf (Elt F) (arg4.view.loc (c : Thread nD τ))) (f5 : Buf (Elt F) (arg5.view.loc (c : Thread nD τ)))
    (h1 : k0_chk1 g) (h2 : k0_chk2 g)
    (hc : Scalar.andi (Scalar.xori stop 1#1) (Scalar.cmpi .slt (ldT arg1 c t1 (k0_off2 g) (k0_off2_inb g h1)) (Scalar.addi (base0 i) 32#32)) = 1#1) :
    (tripRun (F := F) 𝒱 c bd E i arg1 harg1 arg3 harg3 arg5 harg5 arg4 harg4 arg2 harg2 g stop t1 t2 q f3 f4 f5 h1 h2 hc).1.1 = chain 0 slices_S24x128_o0_0_S8x128 (k0_pay3 (ld3 arg3 c f3 g h2)) (k0_pay4 (base0 i) (ld3 arg3 c f3 g h2)) (tileOf arg4 c f4) (ld5 arg5 c f5 (k0_off4 g) (k0_off4_inb g h2)) 32 le_rfl := by
  unfold tripRun
  simp only [tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r_44, tripRun.sl.r_45, tripRun.sl.r_46, tripRun.sl.r_47, tripRun.sl.r_48, tripRun.sl.r_49, tripRun.sl.r_50, tripRun.sl.r_51, tripRun.sl.r_52, tripRun.sl.r_53, tripRun.sl.r_54, tripRun.sl.r_55, tripRun.sl.r_56, tripRun.sl.r_57, tripRun.sl.r_58, tripRun.sl.r_59, tripRun.sl.r_60, tripRun.sl.r_61, tripRun.sl.r_62, tripRun.sl.r_63, tripRun.sl.r_64, tripRun.sl.r_65, tripRun.sl.r_66, tripRun.sl.r_67, tripRun.sl.r_68, tripRun.sl.r_69, tripRun.sl.r_70, tripRun.sl.r_71, tripRun.sl.r_72, tripRun.sl.r_73, tripRun.sl.r_74, tripRun.sl.r_75, tripRun.sl.r_76, tripRun.sl.r_77, tripRun.sl.r_78, tripRun.sl.r_79, tripRun.sl.r_80, tripRun.sl.r_81, tripRun.sl.r_82, tripRun.sl.r_83, tripRun.sl.r_84, tripRun.sl.r_85, tripRun.sl.r_86, tripRun.sl.r_87, tripRun.sl.r_88, tripRun.sl.r_89, tripRun.sl.r_90, tripRun.sl.r_91, tripRun.sl.r_92, tripRun.sl.r_93, tripRun.sl.r_94, tripRun.sl.r_95, tripRun.sl.r_96, tripRun.sl.r_97, tripRun.sl.r_98, tripRun.sl.r_99, tripRun.sl.r_100, tripRun.sl.r_101, tripRun.sl.r_102, tripRun.sl.r_103, tripRun.sl.r_104, tripRun.sl.r_105, tripRun.sl.r_106, tripRun.sl.r_107, tripRun.sl.r_108, tripRun.sl.r_109, tripRun.sl.r_110, tripRun.sl.r_111, tripRun.sl.r_112, tripRun.sl.r_113, tripRun.sl.r_114, tripRun.sl.r_115, tripRun.sl.r_116, tripRun.sl.r_117, tripRun.sl.r_118, tripRun.sl.r_119, tripRun.sl.r_120, tripRun.sl.r_121, tripRun.sl.r_122, tripRun.sl.r_123, tripRun.sl.r_124, tripRun.sl.r_125, tripRun.sl.r_126, tripRun.sl.r_127, tripRun.sl.r_128, tripRun.sl.r_129, tripRun.sl.r_130, tripRun.sl.r_131, tripRun.sl.r_132, tripRun.sl.r_133, tripRun.sl.r_134, tripRun.sl.r_135, tripRun.sl.r_136, tripRun.sl.r_137, tripRun.sl.r_138, tripRun.sl.r_139, tripRun.sl.r_140]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172]
  simp only [chain, step, words, laneIdx]
  rfl

set_option maxHeartbeats 4000000 in
theorem tripRun_mid (𝒱 : Variants) (c : Dev nD) (bd : Option 𝒱.V) (E : Set ℕ) (i : grid0.Coords) (arg1 : Memref sig .tc .smem S283 .i32) (harg1 : arg1.IsWhole) (arg3 : Memref sig .tc .vmem S275x1x128 .i32) (harg3 : arg3.IsWhole) (arg5 : Memref sig .tc .vmem S24x36864 .i32) (harg5 : arg5.IsWhole) (arg4 : Memref sig .tc .vmem S96x4096 .i8) (harg4 : arg4.IsWhole) (arg2 : Memref sig .tc .smem S283 .i32) (harg2 : arg2.IsWhole) (g : BitVec 32) (stop : BitVec 1)
    (t1 : Buf (Elt F) (arg1.view.loc (c : Thread nD τ))) (t2 : Buf (Elt F) (arg2.view.loc (c : Thread nD τ)))
    (q : PosShare TreeShare)
    (f3 : Buf (Elt F) (arg3.view.loc (c : Thread nD τ))) (f4 : Buf (Elt F) (arg4.view.loc (c : Thread nD τ))) (f5 : Buf (Elt F) (arg5.view.loc (c : Thread nD τ)))
    (h1 : k0_chk1 g) (h2 : k0_chk2 g)
    (hc : Scalar.andi (Scalar.xori stop 1#1) (Scalar.cmpi .slt (ldT arg1 c t1 (k0_off2 g) (k0_off2_inb g h1)) (Scalar.addi (base0 i) 32#32)) = 1#1) :
    (tripRun (F := F) 𝒱 c bd E i arg1 harg1 arg3 harg3 arg5 harg5 arg4 harg4 arg2 harg2 g stop t1 t2 q f3 f4 f5 h1 h2 hc).1.2.1 = chain 8 slices_S24x128_o8_0_S8x128 (k0_pay3 (ld3 arg3 c f3 g h2)) (k0_pay4 (base0 i) (ld3 arg3 c f3 g h2)) (tileOf arg4 c f4) (ld5 arg5 c f5 (k0_off5 g) (k0_off5_inb g h2)) 32 le_rfl := by
  unfold tripRun
  simp only [tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r_44, tripRun.sl.r_45, tripRun.sl.r_46, tripRun.sl.r_47, tripRun.sl.r_48, tripRun.sl.r_49, tripRun.sl.r_50, tripRun.sl.r_51, tripRun.sl.r_52, tripRun.sl.r_53, tripRun.sl.r_54, tripRun.sl.r_55, tripRun.sl.r_56, tripRun.sl.r_57, tripRun.sl.r_58, tripRun.sl.r_59, tripRun.sl.r_60, tripRun.sl.r_61, tripRun.sl.r_62, tripRun.sl.r_63, tripRun.sl.r_64, tripRun.sl.r_65, tripRun.sl.r_66, tripRun.sl.r_67, tripRun.sl.r_68, tripRun.sl.r_69, tripRun.sl.r_70, tripRun.sl.r_71, tripRun.sl.r_72, tripRun.sl.r_73, tripRun.sl.r_74, tripRun.sl.r_75, tripRun.sl.r_76, tripRun.sl.r_77, tripRun.sl.r_78, tripRun.sl.r_79, tripRun.sl.r_80, tripRun.sl.r_81, tripRun.sl.r_82, tripRun.sl.r_83, tripRun.sl.r_84, tripRun.sl.r_85, tripRun.sl.r_86, tripRun.sl.r_87, tripRun.sl.r_88, tripRun.sl.r_89, tripRun.sl.r_90, tripRun.sl.r_91, tripRun.sl.r_92, tripRun.sl.r_93, tripRun.sl.r_94, tripRun.sl.r_95, tripRun.sl.r_96, tripRun.sl.r_97, tripRun.sl.r_98, tripRun.sl.r_99, tripRun.sl.r_100, tripRun.sl.r_101, tripRun.sl.r_102, tripRun.sl.r_103, tripRun.sl.r_104, tripRun.sl.r_105, tripRun.sl.r_106, tripRun.sl.r_107, tripRun.sl.r_108, tripRun.sl.r_109, tripRun.sl.r_110, tripRun.sl.r_111, tripRun.sl.r_112, tripRun.sl.r_113, tripRun.sl.r_114, tripRun.sl.r_115, tripRun.sl.r_116, tripRun.sl.r_117, tripRun.sl.r_118, tripRun.sl.r_119, tripRun.sl.r_120, tripRun.sl.r_121, tripRun.sl.r_122, tripRun.sl.r_123, tripRun.sl.r_124, tripRun.sl.r_125, tripRun.sl.r_126, tripRun.sl.r_127, tripRun.sl.r_128, tripRun.sl.r_129, tripRun.sl.r_130, tripRun.sl.r_131, tripRun.sl.r_132, tripRun.sl.r_133, tripRun.sl.r_134, tripRun.sl.r_135, tripRun.sl.r_136, tripRun.sl.r_137, tripRun.sl.r_138, tripRun.sl.r_139, tripRun.sl.r_140]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172]
  simp only [chain, step, words, laneIdx]
  rfl

set_option maxHeartbeats 4000000 in
theorem tripRun_high (𝒱 : Variants) (c : Dev nD) (bd : Option 𝒱.V) (E : Set ℕ) (i : grid0.Coords) (arg1 : Memref sig .tc .smem S283 .i32) (harg1 : arg1.IsWhole) (arg3 : Memref sig .tc .vmem S275x1x128 .i32) (harg3 : arg3.IsWhole) (arg5 : Memref sig .tc .vmem S24x36864 .i32) (harg5 : arg5.IsWhole) (arg4 : Memref sig .tc .vmem S96x4096 .i8) (harg4 : arg4.IsWhole) (arg2 : Memref sig .tc .smem S283 .i32) (harg2 : arg2.IsWhole) (g : BitVec 32) (stop : BitVec 1)
    (t1 : Buf (Elt F) (arg1.view.loc (c : Thread nD τ))) (t2 : Buf (Elt F) (arg2.view.loc (c : Thread nD τ)))
    (q : PosShare TreeShare)
    (f3 : Buf (Elt F) (arg3.view.loc (c : Thread nD τ))) (f4 : Buf (Elt F) (arg4.view.loc (c : Thread nD τ))) (f5 : Buf (Elt F) (arg5.view.loc (c : Thread nD τ)))
    (h1 : k0_chk1 g) (h2 : k0_chk2 g)
    (hc : Scalar.andi (Scalar.xori stop 1#1) (Scalar.cmpi .slt (ldT arg1 c t1 (k0_off2 g) (k0_off2_inb g h1)) (Scalar.addi (base0 i) 32#32)) = 1#1) :
    (tripRun (F := F) 𝒱 c bd E i arg1 harg1 arg3 harg3 arg5 harg5 arg4 harg4 arg2 harg2 g stop t1 t2 q f3 f4 f5 h1 h2 hc).1.2.2 = chain 16 slices_S24x128_o16_0_S8x128 (k0_pay3 (ld3 arg3 c f3 g h2)) (k0_pay4 (base0 i) (ld3 arg3 c f3 g h2)) (tileOf arg4 c f4) (ld5 arg5 c f5 (k0_off6 g) (k0_off6_inb g h2)) 32 le_rfl := by
  unfold tripRun
  simp only [tripRun.sl.r, tripRun.sl.r_1, tripRun.sl.r_2, tripRun.sl.r_3, tripRun.sl.r_4, tripRun.sl.r_5, tripRun.sl.r_6, tripRun.sl.r_7, tripRun.sl.r_8, tripRun.sl.r_9, tripRun.sl.r_10, tripRun.sl.r_11, tripRun.sl.r_12, tripRun.sl.r_13, tripRun.sl.r_14, tripRun.sl.r_15, tripRun.sl.r_16, tripRun.sl.r_17, tripRun.sl.r_18, tripRun.sl.r_19, tripRun.sl.r_20, tripRun.sl.r_21, tripRun.sl.r_22, tripRun.sl.r_23, tripRun.sl.r_24, tripRun.sl.r_25, tripRun.sl.r_26, tripRun.sl.r_27, tripRun.sl.r_28, tripRun.sl.r_29, tripRun.sl.r_30, tripRun.sl.r_31, tripRun.sl.r_32, tripRun.sl.r_33, tripRun.sl.r_34, tripRun.sl.r_35, tripRun.sl.r_36, tripRun.sl.r_37, tripRun.sl.r_38, tripRun.sl.r_39, tripRun.sl.r_40, tripRun.sl.r_41, tripRun.sl.r_42, tripRun.sl.r_43, tripRun.sl.r_44, tripRun.sl.r_45, tripRun.sl.r_46, tripRun.sl.r_47, tripRun.sl.r_48, tripRun.sl.r_49, tripRun.sl.r_50, tripRun.sl.r_51, tripRun.sl.r_52, tripRun.sl.r_53, tripRun.sl.r_54, tripRun.sl.r_55, tripRun.sl.r_56, tripRun.sl.r_57, tripRun.sl.r_58, tripRun.sl.r_59, tripRun.sl.r_60, tripRun.sl.r_61, tripRun.sl.r_62, tripRun.sl.r_63, tripRun.sl.r_64, tripRun.sl.r_65, tripRun.sl.r_66, tripRun.sl.r_67, tripRun.sl.r_68, tripRun.sl.r_69, tripRun.sl.r_70, tripRun.sl.r_71, tripRun.sl.r_72, tripRun.sl.r_73, tripRun.sl.r_74, tripRun.sl.r_75, tripRun.sl.r_76, tripRun.sl.r_77, tripRun.sl.r_78, tripRun.sl.r_79, tripRun.sl.r_80, tripRun.sl.r_81, tripRun.sl.r_82, tripRun.sl.r_83, tripRun.sl.r_84, tripRun.sl.r_85, tripRun.sl.r_86, tripRun.sl.r_87, tripRun.sl.r_88, tripRun.sl.r_89, tripRun.sl.r_90, tripRun.sl.r_91, tripRun.sl.r_92, tripRun.sl.r_93, tripRun.sl.r_94, tripRun.sl.r_95, tripRun.sl.r_96, tripRun.sl.r_97, tripRun.sl.r_98, tripRun.sl.r_99, tripRun.sl.r_100, tripRun.sl.r_101, tripRun.sl.r_102, tripRun.sl.r_103, tripRun.sl.r_104, tripRun.sl.r_105, tripRun.sl.r_106, tripRun.sl.r_107, tripRun.sl.r_108, tripRun.sl.r_109, tripRun.sl.r_110, tripRun.sl.r_111, tripRun.sl.r_112, tripRun.sl.r_113, tripRun.sl.r_114, tripRun.sl.r_115, tripRun.sl.r_116, tripRun.sl.r_117, tripRun.sl.r_118, tripRun.sl.r_119, tripRun.sl.r_120, tripRun.sl.r_121, tripRun.sl.r_122, tripRun.sl.r_123, tripRun.sl.r_124, tripRun.sl.r_125, tripRun.sl.r_126, tripRun.sl.r_127, tripRun.sl.r_128, tripRun.sl.r_129, tripRun.sl.r_130, tripRun.sl.r_131, tripRun.sl.r_132, tripRun.sl.r_133, tripRun.sl.r_134, tripRun.sl.r_135, tripRun.sl.r_136, tripRun.sl.r_137, tripRun.sl.r_138, tripRun.sl.r_139, tripRun.sl.r_140]
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172]
  simp only [chain, step, words, laneIdx]
  rfl

end Cert.Codes.Gen

end
-- ==== Proof.C.Group.lean ====
/-
One group of columns in numbers: the row number `n` that a column asks for lies in the chunk of rows `4096 c … 4096 c + 4095`
or not; if it does the column becomes the words of that row, else it stays.
-/
module

public import proofs.«01_k».proof.Proof.C.Chain
public import Idealize.ShloMosaic.Lib.VecWindow
public import Idealize.ShloMosaic.Lib.WritesUnit
public import Idealize.ShloMosaic.Lib.BitcastFour
public import Idealize.ShloMosaic.Lib.Pipeline.Value

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- Four bytes as a word, the first lowest. -/
def pack4 (b : Fin 4 → BitVec 8) : BitVec 32 :=
  (b 0).setWidth 32 ||| ((b 1).setWidth 32 <<< 8) ||| ((b 2).setWidth 32 <<< 16) ||| ((b 3).setWidth 32 <<< 24)

/-- A word of a tile is the four bytes below one another. -/
theorem words_apply (L : IVec S96x128 8) (a : Fin 24) (l : Fin 128) :
    words L (ix2 a l) = pack4 fun k => L (ix2 (⟨4 * a.val + k.val, by omega⟩ : Fin 96) l) := by
  unfold words
  rw [shapeCast_self]
  apply BitVec.eq_of_getLsbD_eq
  intro q hq
  have h := bitcast_8_32_getLsbD_ix2 L bitcasts_S96x128_w8_S24x128_w32 a l q hq ⟨4 * a.val + q / 8, by omega⟩ rfl
  refine h.trans ?_
  exact (four_bytes_getLsbD (fun k : Fin 4 => L (ix2 (⟨4 * a.val + k.val, by omega⟩ : Fin 96) l)) q hq).symm

/-- The word of a column after chunk `c`: from the chunk if the row is in it, else as it was. -/
def pick (c n : ℕ) (X4 : S96x4096.Idx → BitVec 8) (a : Fin 24) (old : BitVec 32) : BitVec 32 :=
  if h : 4096 * c ≤ n ∧ n < 4096 * c + 4096 then
    pack4 fun k => X4 (ix2 (⟨4 * a.val + k.val, by omega⟩ : Fin 96) (⟨n - 4096 * c, by omega⟩ : Fin 4096))
  else old

theorem pay2_apply (v8 : Vec F S1x1x128 .i32) (a : Fin 8) (l : Fin 128) : k0_pay2 v8 (ix2 a l) = v8 (ix3 (0 : Fin 1) (0 : Fin 1) l) := by
  unfold k0_pay2
  rw [broadcastTo_apply _ _ _ (ix2 (0 : Fin 1) l) (fun a => by match a with | ⟨0, _⟩ => rfl | ⟨1, _⟩ => rfl), shapeCast_self]
  refine (shapeCast_dropUnit_apply ![1, 128] v8 shapeCasts_S1x1x128_S1x128 _).trans (congrArg v8 (funext fun a => ?_))
  match a with
  | ⟨0, _⟩ => rfl
  | ⟨1, _⟩ => rfl
  | ⟨2, _⟩ => rfl

theorem tile_toNat (v8 : Vec F S1x1x128 .i32) (i : grid0.Coords) (y : S8x128.Idx) (n : ℕ) (hn : (k0_pay2 v8 y).toNat = n) :
    (k0_pay4 (Scalar.muli (BitVec.ofNat 32 (i 0).val) 32#32) v8 y).toNat = (n / 128 + (2 ^ 32 - 32 * (i 0).val)) % 2 ^ 32 := by
  have hi : (i 0).val < 733 := (i 0).isLt
  have e : (k0_pay4 (Scalar.muli (BitVec.ofNat 32 (i 0).val) 32#32) v8 y) = (k0_pay2 v8 y) >>> 7 - BitVec.ofNat 32 (i 0).val * 32#32 := by
    show Scalar.shrui (k0_pay2 v8 y) 7#32 - _ = _
    rfl
  rw [e]
  simp only [BitVec.toNat_sub, BitVec.toNat_mul, BitVec.toNat_ofNat, BitVec.toNat_ushiftRight, hn, Nat.shiftRight_eq_div_pow]
  omega

theorem lane_toNat (v8 : Vec F S1x1x128 .i32) (y : S8x128.Idx) (n : ℕ) (hn : (k0_pay2 v8 y).toNat = n) :
    (k0_pay3 v8 y).toNat = n % 128 := by
  have e : k0_pay3 v8 y = (k0_pay2 v8 y) &&& 127#32 := rfl
  rw [e]
  simp only [BitVec.toNat_and, hn, BitVec.toNat_ofNat]
  exact Nat.and_two_pow_sub_one_eq_mod n 7

/-- A stored entry of a group: `pick` of the row number that its column asks for. -/
theorem chain_pick (v8 : Vec F S1x1x128 .i32) (i : grid0.Coords) (L : Fin 32 → IVec S96x128 8) (X4 : S96x4096.Idx → BitVec 8)
    (hL : ∀ (k : Fin 32) (b : Fin 96) (l : Fin 128), L k (ix2 b l) = X4 (ix2 b (⟨128 * k.val + l.val, by omega⟩ : Fin 4096)))
    (o : ℕ) (h : S24x128.Slices ![o, 0] S8x128) (ho : o + 8 ≤ 24) (base : IVec S8x128 32) (a : Fin 8) (l : Fin 128) (n : ℕ)
    (hn : (v8 (ix3 (0 : Fin 1) (0 : Fin 1) l)).toNat = n) :
    chain o h (k0_pay3 v8) (k0_pay4 (Scalar.muli (BitVec.ofNat 32 (i 0).val) 32#32) v8) L base 32 le_rfl (ix2 a l)
      = pick (i 0).val n X4 (⟨o + a.val, by omega⟩ : Fin 24) (base (ix2 a l)) := by
  have hi : (i 0).val < 733 := (i 0).isLt
  have hn' : (k0_pay2 v8 (ix2 a l)).toNat = n := by rw [pay2_apply]; exact hn
  have hlt : n < 2 ^ 32 := by rw [← hn]; exact BitVec.isLt _
  have ht := tile_toNat v8 i (ix2 a l) n hn'
  have hlane := lane_toNat v8 (ix2 a l) n hn'
  rw [chain_apply o h ho _ _ L base (ix2 a l) (by rw [hlane]; omega) 32 le_rfl]
  unfold pick
  by_cases hc : 4096 * (i 0).val ≤ n ∧ n < 4096 * (i 0).val + 4096
  · have htl : (k0_pay4 (Scalar.muli (BitVec.ofNat 32 (i 0).val) 32#32) v8 (ix2 a l)).toNat = n / 128 - 32 * (i 0).val := by rw [ht]; omega
    rw [dif_pos (by rw [htl]; omega), dif_pos hc]
    rw [words_apply]
    congr 1
    funext k
    rw [hL]
    congr 1
    refine congrArg (ix2 _) (Fin.ext ?_)
    show 128 * (k0_pay4 (Scalar.muli (BitVec.ofNat 32 (i 0).val) 32#32) v8 (ix2 a l)).toNat + (k0_pay3 v8 (ix2 a l)).toNat = n - 4096 * (i 0).val
    rw [hlane, htl]; omega
  · rw [dif_neg (by rw [ht]; omega), dif_neg hc]

end Cert.Codes.Gen

end
-- ==== Proof.C.TripSem.lean ====
/-
What one trip of the loop does to the columns of its group, said of the contents of the staging buffers.
-/
module

public import proofs.«01_k».proof.Proof.C.TripValue
public import proofs.«01_k».proof.Proof.C.Group
public import Idealize.ShloMosaic.Lib.VecWindow
public import Idealize.ShloMosaic.Lib.WritesUnit

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

theorem off4_eq (g : BitVec 32) (hg : g.toNat < 275) : k0_off4 g = ![0, 128 * g.toNat] := by
  have e : (g * 128#32).toNat = 128 * g.toNat := by rw [BitVec.toNat_mul, BitVec.toNat_ofNat]; omega
  show ![0, (g * 128#32).toNat] = _
  rw [e]
theorem off5_eq (g : BitVec 32) (hg : g.toNat < 275) : k0_off5 g = ![8, 128 * g.toNat] := by
  have e : (g * 128#32).toNat = 128 * g.toNat := by rw [BitVec.toNat_mul, BitVec.toNat_ofNat]; omega
  show ![8, (g * 128#32).toNat] = _
  rw [e]
theorem off6_eq (g : BitVec 32) (hg : g.toNat < 275) : k0_off6 g = ![16, 128 * g.toNat] := by
  have e : (g * 128#32).toNat = 128 * g.toNat := by rw [BitVec.toNat_mul, BitVec.toNat_ofNat]; omega
  show ![16, (g * 128#32).toNat] = _
  rw [e]

/-- A table has an entry for every group up to the 283rd. -/
theorem chk1_of (g : BitVec 32) (hg : g.toNat < 283) : k0_chk1 g := by
  intro a
  match a with
  | ⟨0, _⟩ => show g.toNat + 1 ≤ 283; omega

theorem band_inb (o n : ℕ) (ho : o + 8 ≤ 24) (hn : n < 275) : ∀ a, (![o, 128 * n] : Fin 2 → ℕ) a + S8x128.size a ≤ S24x36864.size a := by
  intro a
  match a with
  | ⟨0, _⟩ => show o + 8 ≤ 24; omega
  | ⟨1, _⟩ => show 128 * n + 128 ≤ 36864; omega

theorem row_inb (n : ℕ) (hn : n < 275) : ∀ a, (![n, 0, 0] : Fin 3 → ℕ) a + S1x1x128.size a ≤ S275x1x128.size a := by
  intro a
  match a with
  | ⟨0, _⟩ => show n + 1 ≤ 275; omega
  | ⟨1, _⟩ => show 0 + 1 ≤ 1; omega
  | ⟨2, _⟩ => show 0 + 128 ≤ 128; omega

/-- A group of columns lies inside the result, and its row numbers inside theirs. -/
theorem chk2_of (g : BitVec 32) (hg : g.toNat < 275) : k0_chk2 g := by
  refine ⟨row_inb g.toNat hg, ?_, ?_, ?_, ?_, ?_⟩
  · have e : (g * 128#32).toNat = 128 * g.toNat := by rw [BitVec.toNat_mul, BitVec.toNat_ofNat]; omega
    show 128 ∣ (g * 128#32).toNat
    rw [e]; exact Nat.dvd_mul_right _ _
  · rw [off4_eq g hg]; exact band_inb 0 _ (by omega) hg
  · rw [off5_eq g hg]; exact band_inb 8 _ (by omega) hg
  · rw [off6_eq g hg]; exact band_inb 16 _ (by omega) hg
  · intro a
    match a with
    | ⟨0, _⟩ => show g.toNat + 1 ≤ 283; omega

variable (c : Dev nD)

theorem tileOf_apply (arg4 : Memref sig .tc .vmem S96x4096 .i8) (f4 : Buf (Elt F) (arg4.view.loc (c : Thread nD τ))) (k : Fin 32) (b : Fin 96) (l : Fin 128) :
    tileOf arg4 c f4 k (ix2 b l) = (arg4.view.read (Elt F) f4 : S96x4096.Idx → BitVec 8) (ix2 b (⟨128 * k.val + l.val, by omega⟩ : Fin 4096)) := by
  unfold tileOf
  rw [View.readAt_unit arg4.view f4 (tile_inb k) rfl (tile_inb k)]
  refine congrArg (arg4.view.read (Elt F) f4) (funext fun a => Fin.ext ?_)
  match a with
  | ⟨0, _⟩ => show 0 + 1 * b.val = b.val; omega
  | ⟨1, _⟩ => show 128 * k.val + 1 * l.val = 128 * k.val + l.val; omega

theorem ld5_apply (arg5 : Memref sig .tc .vmem S24x36864 .i32) (f5 : Buf (Elt F) (arg5.view.loc (c : Thread nD τ)))
    (off : Fin 2 → ℕ) (h : ∀ a, off a + S8x128.size a ≤ S24x36864.size a) (o n : ℕ) (e : off = ![o, 128 * n]) (ho : o + 8 ≤ 24) (hn : n < 275) (a : Fin 8) (l : Fin 128) :
    ld5 arg5 c f5 off h (ix2 a l) = (arg5.view.read (Elt F) f5 : S24x36864.Idx → BitVec 32) (ix2 (⟨o + a.val, by omega⟩ : Fin 24) (⟨128 * n + l.val, by omega⟩ : Fin 36864)) := by
  refine (congrFun (shapeCast_self (s := S8x128) (View.readAt (Elt F) arg5.view (Rect.unit (s := S24x36864) off S8x128.size h).toLoadRect f5) shapeCasts_S8x128_S8x128) (ix2 a l)).trans ?_
  rw [View.readAt_unit arg5.view f5 h e (band_inb o n ho hn)]
  refine congrArg (arg5.view.read (Elt F) f5) (funext fun b => Fin.ext ?_)
  match b with
  | ⟨0, _⟩ => show o + 1 * a.val = o + a.val; omega
  | ⟨1, _⟩ => show 128 * n + 1 * l.val = 128 * n + l.val; omega

theorem ld3_apply (arg3 : Memref sig .tc .vmem S275x1x128 .i32) (f3 : Buf (Elt F) (arg3.view.loc (c : Thread nD τ)))
    (g : BitVec 32) (h2 : k0_chk2 g) (hg : g.toNat < 275) (l : Fin 128) :
    ld3 arg3 c f3 g h2 (ix3 (0 : Fin 1) (0 : Fin 1) l) = (arg3.view.read (Elt F) f3 : S275x1x128.Idx → BitVec 32) (ix3 (⟨g.toNat, hg⟩ : Fin 275) (0 : Fin 1) l) := by
  unfold ld3
  rw [View.readAt_unit arg3.view f3 (k0_off3_inb g h2) (off' := ![g.toNat, 0, 0]) rfl (row_inb _ hg)]
  refine congrArg (arg3.view.read (Elt F) f3) (funext fun b => Fin.ext ?_)
  match b with
  | ⟨0, _⟩ => show g.toNat + 1 * 0 = g.toNat; omega
  | ⟨1, _⟩ => show 0 + 1 * 0 = 0; omega
  | ⟨2, _⟩ => show 0 + 1 * l.val = l.val; omega

theorem ldT_apply (arg : Memref sig .tc .smem S283 .i32) (t : Buf (Elt F) (arg.view.loc (c : Thread nD τ)))
    (off : Fin 1 → ℕ) (h : ∀ a, off a + S1.size a ≤ S283.size a) (n : ℕ) (e : off = ![n]) (hn : n < 283) :
    ldT arg c t off h = (arg.view.read (Elt F) t : S283.Idx → BitVec 32) (fun a => ⟨n, by match a with | ⟨0, _⟩ => exact hn⟩) := by
  unfold ldT
  subst e
  refine congrArg (arg.view.read (Elt F) t) (funext fun b => Fin.ext ?_)
  match b with
  | ⟨0, _⟩ => show n + 1 * 0 = n; omega

/-- The columns after chunk `c`'s trip at group `g`: those of the group that ask for a row of the chunk are its words. -/
def upd (c g : ℕ) (X3 : S275x1x128.Idx → BitVec 32) (X4 : S96x4096.Idx → BitVec 8) (X5 : S24x36864.Idx → BitVec 32) : S24x36864.Idx → BitVec 32 := fun y =>
  if h : g < 275 ∧ (y 1).val / 128 = g then
    pick c (X3 (ix3 (⟨g, h.1⟩ : Fin 275) (0 : Fin 1) (⟨(y 1).val % 128, Nat.mod_lt _ (by decide)⟩ : Fin 128))).toNat X4 (y 0) (X5 y)
  else X5 y

/-- One band of the stored group is that band of the columns after the trip. -/
theorem band_upd (i : grid0.Coords) (arg3 : Memref sig .tc .vmem S275x1x128 .i32) (arg4 : Memref sig .tc .vmem S96x4096 .i8) (arg5 : Memref sig .tc .vmem S24x36864 .i32)
    (f3 : Buf (Elt F) (arg3.view.loc (c : Thread nD τ))) (f4 : Buf (Elt F) (arg4.view.loc (c : Thread nD τ))) (f5 : Buf (Elt F) (arg5.view.loc (c : Thread nD τ)))
    (g : BitVec 32) (h2 : k0_chk2 g) (hg : g.toNat < 275)
    (o : ℕ) (h : S24x128.Slices ![o, 0] S8x128) (ho : o + 8 ≤ 24) (off : Fin 2 → ℕ) (hoff : ∀ a, off a + S8x128.size a ≤ S24x36864.size a) (e : off = ![o, 128 * g.toNat])
    (y : S24x36864.Idx) (x : S8x128.Idx) (hx0 : (y 0).val = o + (x 0).val) (hx1 : (y 1).val = 128 * g.toNat + (x 1).val) :
    chain o h (k0_pay3 (ld3 arg3 c f3 g h2)) (k0_pay4 (base0 i) (ld3 arg3 c f3 g h2)) (tileOf arg4 c f4) (ld5 arg5 c f5 off hoff) 32 le_rfl x
      = upd (i 0).val g.toNat (arg3.view.read (Elt F) f3) (arg4.view.read (Elt F) f4) (arg5.view.read (Elt F) f5) y := by
  obtain ⟨a, l, rfl⟩ : ∃ (a : Fin 8) (l : Fin 128), x = ix2 a l := ⟨x 0, x 1, funext fun b => by
    match b with
    | ⟨0, _⟩ => rfl
    | ⟨1, _⟩ => rfl⟩
  replace hx0 : (y 0).val = o + a.val := hx0
  replace hx1 : (y 1).val = 128 * g.toNat + l.val := hx1
  have la := a.isLt
  have ll := l.isLt
  have ey : y = ix2 (⟨o + a.val, by omega⟩ : Fin 24) (⟨128 * g.toNat + l.val, by omega⟩ : Fin 36864) := funext fun b => Fin.ext (by
    match b with
    | ⟨0, _⟩ => exact hx0
    | ⟨1, _⟩ => exact hx1)
  have hm : (⟨(y 1).val % 128, Nat.mod_lt _ (by decide)⟩ : Fin 128) = l := Fin.ext (by show (y 1).val % 128 = l.val; omega)
  have h0 : (⟨o + a.val, by omega⟩ : Fin 24) = y 0 := Fin.ext hx0.symm
  unfold upd
  rw [dif_pos ⟨hg, by omega⟩, hm]
  rw [chain_pick _ i (tileOf arg4 c f4) (arg4.view.read (Elt F) f4) (fun k b l => tileOf_apply c arg4 f4 k b l) o h ho _ _ _ _ rfl]
  rw [ld3_apply c arg3 f3 g h2 hg, ld5_apply c arg5 f5 off hoff o g.toNat e ho hg, ← ey, h0]

/-- The result's contents after the trip's three stores. -/
theorem trip_read (i : grid0.Coords) (arg3 : Memref sig .tc .vmem S275x1x128 .i32) (arg4 : Memref sig .tc .vmem S96x4096 .i8) (arg5 : Memref sig .tc .vmem S24x36864 .i32)
    (f3 : Buf (Elt F) (arg3.view.loc (c : Thread nD τ))) (f4 : Buf (Elt F) (arg4.view.loc (c : Thread nD τ))) (f5 : Buf (Elt F) (arg5.view.loc (c : Thread nD τ)))
    (g : BitVec 32) (h2 : k0_chk2 g) (hg : g.toNat < 275) (w0 w1 w2 : S8x128.Idx → BitVec 32)
    (e0 : w0 = chain 0 slices_S24x128_o0_0_S8x128 (k0_pay3 (ld3 arg3 c f3 g h2)) (k0_pay4 (base0 i) (ld3 arg3 c f3 g h2)) (tileOf arg4 c f4) (ld5 arg5 c f5 (k0_off4 g) (k0_off4_inb g h2)) 32 le_rfl)
    (e1 : w1 = chain 8 slices_S24x128_o8_0_S8x128 (k0_pay3 (ld3 arg3 c f3 g h2)) (k0_pay4 (base0 i) (ld3 arg3 c f3 g h2)) (tileOf arg4 c f4) (ld5 arg5 c f5 (k0_off5 g) (k0_off5_inb g h2)) 32 le_rfl)
    (e2 : w2 = chain 16 slices_S24x128_o16_0_S8x128 (k0_pay3 (ld3 arg3 c f3 g h2)) (k0_pay4 (base0 i) (ld3 arg3 c f3 g h2)) (tileOf arg4 c f4) (ld5 arg5 c f5 (k0_off6 g) (k0_off6_inb g h2)) 32 le_rfl) :
    arg5.view.read (Elt F) (arg5.view.writes (Elt F) f5
        [⟨Rect.unit (k0_off6 g) S8x128.size (k0_off6_inb g h2), w2⟩, ⟨Rect.unit (k0_off5 g) S8x128.size (k0_off5_inb g h2), w1⟩, ⟨Rect.unit (k0_off4 g) S8x128.size (k0_off4_inb g h2), w0⟩])
      = upd (i 0).val g.toNat (arg3.view.read (Elt F) f3) (arg4.view.read (Elt F) f4) (arg5.view.read (Elt F) f5) := by
  funext y
  have ly0 : (y 0).val < 24 := (y 0).isLt
  by_cases hy : (y 1).val / 128 = g.toNat
  · have split (o : ℕ) (ho : o ≤ (y 0).val ∧ (y 0).val < o + 8) : ∃ x : S8x128.Idx, (y 0).val = o + (x 0).val ∧ (y 1).val = 128 * g.toNat + (x 1).val :=
      ⟨ix2 (⟨(y 0).val - o, by omega⟩ : Fin 8) (⟨(y 1).val % 128, Nat.mod_lt _ (by decide)⟩ : Fin 128), by show (y 0).val = o + ((y 0).val - o); omega,
        by show (y 1).val = 128 * g.toNat + (y 1).val % 128; omega⟩
    have at_ {o : ℕ} {x : S8x128.Idx} (h0 : (y 0).val = o + (x 0).val) (h1 : (y 1).val = 128 * g.toNat + (x 1).val) :
        ∀ a, (y a).val = (![o, 128 * g.toNat] : Fin 2 → ℕ) a + (x a).val := fun a => by
      match a with
      | ⟨0, _⟩ => exact h0
      | ⟨1, _⟩ => exact h1
    by_cases c2 : 16 ≤ (y 0).val
    · obtain ⟨x, h0, h1⟩ := split 16 ⟨c2, by omega⟩
      refine (View.read_writes_cons_unit_of_mem (size := S8x128.size) arg5.view f5 (k0_off6_inb g h2) w2 _ y x (off6_eq g hg) (at_ h0 h1)).trans ?_
      rw [e2]
      exact band_upd c i arg3 arg4 arg5 f3 f4 f5 g h2 hg 16 _ (by omega) _ _ (off6_eq g hg) y x h0 h1
    · rw [View.read_writes_cons_unit_of_not_mem arg5.view f5 _ _ _ y (off6_eq g hg) (0 : Fin 2) (.inl (by show (y 0).val < 16; omega))]
      by_cases c1 : 8 ≤ (y 0).val
      · obtain ⟨x, h0, h1⟩ := split 8 ⟨c1, by omega⟩
        refine (View.read_writes_cons_unit_of_mem (size := S8x128.size) arg5.view f5 (k0_off5_inb g h2) w1 _ y x (off5_eq g hg) (at_ h0 h1)).trans ?_
        rw [e1]
        exact band_upd c i arg3 arg4 arg5 f3 f4 f5 g h2 hg 8 _ (by omega) _ _ (off5_eq g hg) y x h0 h1
      · rw [View.read_writes_cons_unit_of_not_mem arg5.view f5 _ _ _ y (off5_eq g hg) (0 : Fin 2) (.inl (by show (y 0).val < 8; omega))]
        obtain ⟨x, h0, h1⟩ := split 0 ⟨by omega, by omega⟩
        refine (View.read_writes_cons_unit_of_mem (size := S8x128.size) arg5.view f5 (k0_off4_inb g h2) w0 _ y x (off4_eq g hg) (at_ h0 h1)).trans ?_
        rw [e0]
        exact band_upd c i arg3 arg4 arg5 f3 f4 f5 g h2 hg 0 _ (by omega) _ _ (off4_eq g hg) y x h0 h1
  · have out (o : ℕ) : (y 1).val < (![o, 128 * g.toNat] : Fin 2 → ℕ) 1 ∨ (![o, 128 * g.toNat] : Fin 2 → ℕ) 1 + S8x128.size 1 ≤ (y 1).val := by
      show (y 1).val < 128 * g.toNat ∨ 128 * g.toNat + 128 ≤ (y 1).val
      omega
    rw [View.read_writes_cons_unit_of_not_mem arg5.view f5 _ _ _ y (off6_eq g hg) (1 : Fin 2) (out 16),
      View.read_writes_cons_unit_of_not_mem arg5.view f5 _ _ _ y (off5_eq g hg) (1 : Fin 2) (out 8),
      View.read_writes_cons_unit_of_not_mem arg5.view f5 _ _ _ y (off4_eq g hg) (1 : Fin 2) (out 0)]
    unfold upd
    rw [dif_neg (fun h => hy h.2)]
    rfl

end Cert.Codes.Gen

end
-- ==== Proof.C.While.lean ====
/-
The loop over the groups that reach into a chunk: any invariant that a trip keeps holds when it ends, and it ends.
-/
module

public import proofs.«01_k».proof.Proof.C.TripSem

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- Entry `n` of a table. -/
def ent (T : S283.Idx → BitVec 32) (n : ℕ) : BitVec 32 := if h : n < 283 then T (fun a => ⟨n, by match a with | ⟨0, _⟩ => exact h⟩) else 0#32

/-- Whether a group's tile number `t` lies before the end of chunk `i`. -/
abbrev before (i : grid0.Coords) (t : BitVec 32) : BitVec 1 := Scalar.cmpi .slt t (Scalar.addi (base0 i) 32#32)

/-- The loop's condition: the flag is not set and the group begins before the chunk's end. -/
abbrev goOn (i : grid0.Coords) (T1 : S283.Idx → BitVec 32) (g : BitVec 32) (s : BitVec 1) : BitVec 1 :=
  Scalar.andi (Scalar.xori s 1#1) (before i (ent T1 g.toNat))

/-- The group of the next trip: the next one if this one ends in the chunk. -/
abbrev gNext (i : grid0.Coords) (T2 : S283.Idx → BitVec 32) (g : BitVec 32) : BitVec 32 :=
  Scalar.addi g (Scalar.select (before i (ent T2 g.toNat)) 1#32 0#32)

/-- The flag of the next trip: set if this group goes on into the next chunk. -/
abbrev sNext (i : grid0.Coords) (T2 : S283.Idx → BitVec 32) (g : BitVec 32) : BitVec 1 :=
  Scalar.xori (before i (ent T2 g.toNat)) 1#1

theorem ent_of (T : S283.Idx → BitVec 32) (n : ℕ) (h : n < 283) : ent T n = T (fun a => ⟨n, by match a with | ⟨0, _⟩ => exact h⟩) := by
  unfold ent; rw [dif_pos h]

theorem goOn_iff (s b : BitVec 1) : Scalar.andi (Scalar.xori s 1#1) b = 1#1 ↔ s = 0#1 ∧ b = 1#1 := by
  revert s b; decide

/-- Trips to go at most. -/
def togo (g : BitVec 32) (s : BitVec 1) : ℕ := 2 * (276 - g.toNat) + (if s = 1#1 then 0 else 1)

theorem togo_next (i : grid0.Coords) (T2 : S283.Idx → BitVec 32) (g : BitVec 32) (hg : g.toNat < 275) :
    togo (gNext i T2 g) (sNext i T2 g) + 1 ≤ togo g 0#1 := by
  have hb : before i (ent T2 g.toNat) = 0#1 ∨ before i (ent T2 g.toNat) = 1#1 := by
    generalize before i (ent T2 g.toNat) = b
    revert b; decide
  unfold togo gNext sNext
  rcases hb with h | h
  · rw [h]
    have e : (Scalar.addi g (Scalar.select 0#1 1#32 0#32)).toNat = g.toNat := by
      show (g + 0#32).toNat = _
      rw [BitVec.add_zero]
    rw [e, if_pos (by decide), if_neg (by decide)]
  · rw [h]
    have e : (Scalar.addi g (Scalar.select 1#1 1#32 0#32)).toNat = g.toNat + 1 := by
      show (g + 1#32).toNat = _
      rw [BitVec.toNat_add]; simp only [BitVec.toNat_ofNat]; omega
    rw [e, if_neg (by decide), if_neg (by decide)]
    omega

/-- What the loop holds: the tables, the row numbers, the chunk and the result. -/
abbrev held (c : Dev nD) (arg1 : Memref sig .tc .smem S283 .i32) (arg2 : Memref sig .tc .smem S283 .i32) (arg3 : Memref sig .tc .vmem S275x1x128 .i32) (arg4 : Memref sig .tc .vmem S96x4096 .i8) (arg5 : Memref sig .tc .vmem S24x36864 .i32)
    (t1 : Buf (Elt F) (arg1.view.loc (c : Thread nD τ))) (t2 : Buf (Elt F) (arg2.view.loc (c : Thread nD τ))) (q : PosShare TreeShare)
    (f3 : Buf (Elt F) (arg3.view.loc (c : Thread nD τ))) (f4 : Buf (Elt F) (arg4.view.loc (c : Thread nD τ))) (f5 : Buf (Elt F) (arg5.view.loc (c : Thread nD τ))) : sProp 𝕄 :=
  iprop((arg1.view.loc (c : Thread nD τ) ↦{q} t1) ∗ (arg2.view.loc (c : Thread nD τ) ↦{q} t2)
      ∗ (arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5))

/-- The loop run from any group and flag of which the invariant holds. -/
theorem while_run (c : Dev nD) (E : Set ℕ) (i : grid0.Coords) (arg1 : Memref sig .tc .smem S283 .i32) (harg1 : arg1.IsWhole) (arg3 : Memref sig .tc .vmem S275x1x128 .i32) (harg3 : arg3.IsWhole) (arg5 : Memref sig .tc .vmem S24x36864 .i32) (harg5 : arg5.IsWhole) (arg4 : Memref sig .tc .vmem S96x4096 .i8) (harg4 : arg4.IsWhole) (arg2 : Memref sig .tc .smem S283 .i32) (harg2 : arg2.IsWhole)
    (t1 : Buf (Elt F) (arg1.view.loc (c : Thread nD τ))) (t2 : Buf (Elt F) (arg2.view.loc (c : Thread nD τ))) (q : PosShare TreeShare)
    (f3 : Buf (Elt F) (arg3.view.loc (c : Thread nD τ))) (f4 : Buf (Elt F) (arg4.view.loc (c : Thread nD τ)))
    (Inv : BitVec 32 → BitVec 1 → (S24x36864.Idx → BitVec 32) → Prop)
    (hle : ∀ g s X, Inv g s X → g.toNat ≤ 275)
    (hlt : ∀ g s X, Inv g s X → goOn i (arg1.view.read (Elt F) t1) g s = 1#1 → g.toNat < 275)
    (hstep : ∀ g s X, Inv g s X → goOn i (arg1.view.read (Elt F) t1) g s = 1#1 →
      Inv (gNext i (arg2.view.read (Elt F) t2) g) (sNext i (arg2.view.read (Elt F) t2) g)
        (upd (i 0).val g.toNat (arg3.view.read (Elt F) f3) (arg4.view.read (Elt F) f4) X)) :
    ∀ (n : ℕ) (g : BitVec 32) (s : BitVec 1) (f5 : Buf (Elt F) (arg5.view.loc (c : Thread nD τ))),
      Inv g s (arg5.view.read (Elt F) f5) → togo g s ≤ n → ∀ K : BitVec 32 × BitVec 1 → sProp 𝕄,
      iprop(held c arg1 arg2 arg3 arg4 arg5 t1 t2 q f3 f4 f5
        ∗ (∀ (g' : BitVec 32) (s' : BitVec 1) (f5' : Buf (Elt F) (arg5.view.loc (c : Thread nD τ))),
            ⌜Inv g' s' (arg5.view.read (Elt F) f5') ∧ ¬ goOn i (arg1.view.read (Elt F) t1) g' s' = 1#1⌝
              -∗ held c arg1 arg2 arg3 arg4 arg5 t1 t2 q f3 f4 f5' -∗ K (g', s')))
      ⊢ wp frame (wpE (defs₀ (F := F)) Variants.nat (c : Thread nD τ) (some n)) E (cc0_while1 i arg1 harg1 arg3 harg3 arg5 harg5 arg4 harg4 arg2 harg2 g s) K := by
  intro n
  induction n with
  | zero =>
    intro g s f5 hI hn K
    have := hle g s _ hI
    unfold togo at hn
    omega
  | succ n ih =>
    intro g s f5 hI hn K
    have hg := hle g s _ hI
    have h1 : k0_chk1 g := chk1_of g (by omega)
    have e1 : ldT arg1 c t1 (k0_off2 g) (k0_off2_inb g h1) = ent (arg1.view.read (Elt F) t1) g.toNat := by
      rw [ldT_apply c arg1 t1 (k0_off2 g) (k0_off2_inb g h1) g.toNat rfl (by omega), ent_of _ _ (by omega)]
    by_cases hc : goOn i (arg1.view.read (Elt F) t1) g s = 1#1
    · have hg' := hlt g s _ hI hc
      have h2 : k0_chk2 g := chk2_of g hg'
      have e2 : ldT arg2 c t2 (k0_off7 g) (k0_off7_inb g h2) = ent (arg2.view.read (Elt F) t2) g.toNat := by
        rw [ldT_apply c arg2 t2 (k0_off7 g) (k0_off7_inb g h2) g.toNat rfl (by omega), ent_of _ _ (by omega)]
      have hc' : Scalar.andi (Scalar.xori s 1#1) (Scalar.cmpi .slt (ldT arg1 c t1 (k0_off2 g) (k0_off2_inb g h1)) (Scalar.addi (base0 i) 32#32)) = 1#1 := by
        rw [e1]; exact hc
      have hs : s = 0#1 := ((goOn_iff _ _).mp hc).1
      refine BIBase.Entails.trans ?_ ((tripRun (F := F) Variants.nat c (some (n + 1)) E i arg1 harg1 arg3 harg3 arg5 harg5 arg4 harg4 arg2 harg2 g s t1 t2 q f3 f4 f5 h1 h2 hc').2 K)
      rw [tripRun_low, tripRun_mid, tripRun_high, e2]
      iintro ⟨⟨H1, H2, H3, H4, H5⟩, HK⟩
      isplitl [H1]; · iexact H1
      isplitl [H2]; · iexact H2
      isplitl [H3]; · iexact H3
      isplitl [H4]; · iexact H4
      isplitl [H5]; · iexact H5
      iintro ⟨H1, H2, H3, H4, H5⟩
      iapply (wp_call Variants.nat (c : Thread nD τ) (some (n + 1)) E n (fun u hu => by cases hu; exact Nat.lt_succ_self n))
      have hI' := hstep g s _ hI hc
      rw [← trip_read c i arg3 arg4 arg5 f3 f4 f5 g h2 hg' _ _ _ rfl rfl rfl] at hI'
      have hn' : togo (gNext i (arg2.view.read (Elt F) t2) g) (sNext i (arg2.view.read (Elt F) t2) g) ≤ n := by
        have := togo_next i (arg2.view.read (Elt F) t2) g hg'
        rw [hs] at hn; omega
      iapply (ih _ _ _ hI' hn' _)
      isplitl [H1 H2 H3 H4 H5]
      · isplitl [H1]; · iexact H1
        isplitl [H2]; · iexact H2
        isplitl [H3]; · iexact H3
        isplitl [H4]; · iexact H4
        iexact H5
      iintro %g' %s' %f5' %h HH
      rw [wp_ret]; imodintro
      iapply HK $$ %g' %s' %f5' %h HH
    · have hc' : ¬ Scalar.andi (Scalar.xori s 1#1) (Scalar.cmpi .slt (ldT arg1 c t1 (k0_off2 g) (k0_off2_inb g h1)) (Scalar.addi (base0 i) 32#32)) = 1#1 := by
        rw [e1]; exact hc
      simp only [cc0_while1_eq_skeleton]; unfold cc0_while1_skel
      iintro ⟨⟨H1, H2, H3, H4, H5⟩, HK⟩
      sl_exec
      rw [wp_ret]; imodintro
      iapply HK $$ %g %s %f5 %⟨hI, hc⟩
      isplitl [H1]; · iexact H1
      isplitl [H2]; · iexact H2
      isplitl [H3]; · iexact H3
      isplitl [H4]; · iexact H4
      iexact H5

end Cert.Codes.Gen

end
-- ==== Proof.C.Invariant.lean ====
/-
The loop's invariant: which columns already hold the words of their rows. The chunks of the table come in ascending order
and so do the rows asked for, so the groups are met in order, and a group that reaches past a chunk is met again in the next.
-/
module

public import proofs.«01_k».proof.Proof.C.While

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The row that column `q` asks for. -/
def rowAt (X3 : S275x1x128.Idx → BitVec 32) (q : ℕ) : ℕ :=
  if h : q < 35200 then (X3 (ix3 (⟨q / 128, by omega⟩ : Fin 275) (0 : Fin 1) (⟨q % 128, Nat.mod_lt _ (by decide)⟩ : Fin 128))).toNat else 0

/-- The tables against the row numbers: each group's first and last tile, and a large number past the last group. -/
structure Tables (X3 : S275x1x128.Idx → BitVec 32) (T1 T2 : S283.Idx → BitVec 32) : Prop where
  first : ∀ g, g < 275 → (ent T1 g).toNat = rowAt X3 (128 * g) / 128
  last : ∀ g, g < 275 → (ent T2 g).toNat = rowAt X3 (128 * g + 127) / 128
  past : (ent T1 275).toNat = 2 ^ 30

/-- The rows asked for ascend and are rows of the table. -/
structure Ascend (X3 : S275x1x128.Idx → BitVec 32) : Prop where
  mono : ∀ q q', q ≤ q' → q' < 35200 → rowAt X3 q ≤ rowAt X3 q'
  lt : ∀ q, q < 35200 → rowAt X3 q < 3000000

/-- Column `q` of `X` holds the words of its row of the table `tab`. -/
def Done (tab : ℕ → ℕ → BitVec 8) (X3 : S275x1x128.Idx → BitVec 32) (X : S24x36864.Idx → BitVec 32) (q : ℕ) : Prop :=
  ∀ (a : Fin 24) (l : Fin 36864), l.val = q → X (ix2 a l) = pack4 fun k => tab (4 * a.val + k.val) (rowAt X3 q)

/-- The columns past the rows asked for are zero. -/
def Zeros (X : S24x36864.Idx → BitVec 32) : Prop := ∀ (a : Fin 24) (l : Fin 36864), 35200 ≤ l.val → X (ix2 a l) = 0#32

/-- Between chunks: `c` chunks met, the groups before `g` complete. -/
structure Between (tab : ℕ → ℕ → BitVec 8) (X3 : S275x1x128.Idx → BitVec 32) (c g : ℕ) (X : S24x36864.Idx → BitVec 32) : Prop where
  le : g ≤ 275
  zeros : Zeros X
  met : Ascend X3 → ∀ q, q < 35200 → q / 128 < g → rowAt X3 q < 4096 * c
  done : Ascend X3 → ∀ q, q < 35200 → rowAt X3 q < 4096 * c → Done tab X3 X q

/-- Inside chunk `c`: the groups before `g` are complete, and with the flag set group `g` is as far as this chunk goes. -/
structure Inside (tab : ℕ → ℕ → BitVec 8) (X3 : S275x1x128.Idx → BitVec 32) (c : ℕ) (g : BitVec 32) (s : BitVec 1) (X : S24x36864.Idx → BitVec 32) : Prop where
  le : g.toNat ≤ 275
  zeros : Zeros X
  old : Ascend X3 → ∀ q, q < 35200 → rowAt X3 q < 4096 * c → Done tab X3 X q
  met : Ascend X3 → ∀ q, q < 35200 → q / 128 < g.toNat → rowAt X3 q < 4096 * (c + 1) ∧ Done tab X3 X q
  here : s = 1#1 → Ascend X3 → ∀ q, q < 35200 → q / 128 = g.toNat → rowAt X3 q < 4096 * (c + 1) → Done tab X3 X q
  over : s = 1#1 → g.toNat < 275 ∧ 4096 * (c + 1) ≤ rowAt X3 (128 * g.toNat + 127)

theorem bit_cases : ∀ s : BitVec 1, s = 0#1 ∨ s = 1#1 := by decide

theorem before_iff (i : grid0.Coords) (t : BitVec 32) (ht : t.toNat < 2 ^ 31) : before i t = 1#1 ↔ t.toNat < 32 * (i 0).val + 32 := by
  have hi : (i 0).val < 733 := (i 0).isLt
  have e : (Scalar.addi (base0 i) 32#32).toNat = 32 * (i 0).val + 32 := by
    show (BitVec.ofNat 32 (i 0).val * 32#32 + 32#32).toNat = _
    rw [BitVec.toNat_add, BitVec.toNat_mul]; simp only [BitVec.toNat_ofNat]; omega
  show BitVec.ofBool (t.slt (Scalar.addi (base0 i) 32#32)) = 1#1 ↔ _
  generalize hb : Scalar.addi (base0 i) 32#32 = b at e
  have e1 : t.toInt = t.toNat := BitVec.toInt_eq_toNat_of_lt (by omega)
  have e2 : b.toInt = b.toNat := BitVec.toInt_eq_toNat_of_lt (by omega)
  have h : t.slt b = decide (t.toNat < 32 * (i 0).val + 32) := by
    rw [BitVec.slt_eq_decide, e1, e2, e]
    congr 1
    apply propext
    omega
  rw [h]
  by_cases hd : t.toNat < 32 * (i 0).val + 32
  · simp [hd]
  · simp [hd]

theorem rowAt_lt (X3 : S275x1x128.Idx → BitVec 32) (q : ℕ) : rowAt X3 q < 2 ^ 32 := by
  unfold rowAt
  split
  · exact BitVec.isLt _
  · omega

variable {tab : ℕ → ℕ → BitVec 8} {X3 : S275x1x128.Idx → BitVec 32} {T1 T2 : S283.Idx → BitVec 32} {X4 : S96x4096.Idx → BitVec 8}
variable (i : grid0.Coords)

/-- A group is entered only if it is one. -/
theorem Inside.lt (hT : Tables X3 T1 T2) {g : BitVec 32} {s : BitVec 1} {X : S24x36864.Idx → BitVec 32} (h : Inside tab X3 (i 0).val g s X)
    (hc : goOn i T1 g s = 1#1) : g.toNat < 275 := by
  have hi : (i 0).val < 733 := (i 0).isLt
  rcases Nat.lt_or_ge g.toNat 275 with h' | h'
  · exact h'
  · exfalso
    have hg : g.toNat = 275 := Nat.le_antisymm h.le h'
    have hb := ((goOn_iff _ _).mp hc).2
    rw [hg] at hb
    have := (before_iff i _ (by rw [hT.past]; omega)).mp hb
    rw [hT.past] at this
    omega

/-- A column after a trip at its group, its row in a chunk met so far. -/
theorem done_upd (hA : Ascend X3) (hX4 : ∀ (b : Fin 96) (y : Fin 4096), 4096 * (i 0).val + y.val < 3000000 → X4 (ix2 b y) = tab b.val (4096 * (i 0).val + y.val))
    {g : ℕ} (hg : g < 275) {X : S24x36864.Idx → BitVec 32} {q : ℕ} (hq : q < 35200) (hqg : q / 128 = g) (hr : rowAt X3 q < 4096 * ((i 0).val + 1))
    (old : rowAt X3 q < 4096 * (i 0).val → Done tab X3 X q) : Done tab X3 (upd (i 0).val g X3 X4 X) q := by
  intro a l hl
  have e : (X3 (ix3 (⟨g, hg⟩ : Fin 275) (0 : Fin 1) (⟨l.val % 128, Nat.mod_lt _ (by decide)⟩ : Fin 128))).toNat = rowAt X3 q := by
    unfold rowAt
    rw [dif_pos hq]
    subst hl hqg
    rfl
  unfold upd
  rw [dif_pos ⟨hg, by show l.val / 128 = g; rw [hl]; exact hqg⟩]
  show pick _ (X3 (ix3 (⟨g, hg⟩ : Fin 275) (0 : Fin 1) (⟨l.val % 128, Nat.mod_lt _ (by decide)⟩ : Fin 128))).toNat X4 a _ = _
  rw [e]
  unfold pick
  by_cases hc : 4096 * (i 0).val ≤ rowAt X3 q ∧ rowAt X3 q < 4096 * (i 0).val + 4096
  · rw [dif_pos hc]
    congr 1
    funext k
    have hlt := hA.lt q hq
    rw [hX4 _ _ (by show 4096 * (i 0).val + (rowAt X3 q - 4096 * (i 0).val) < _; omega)]
    show tab (4 * a.val + k.val) (4096 * (i 0).val + (rowAt X3 q - 4096 * (i 0).val)) = _
    congr 1
    omega
  · rw [dif_neg hc]
    exact old (by omega) a l hl

/-- A column of another group, or whose row lies before the chunk, stays. -/
theorem done_keep {g : ℕ} {X : S24x36864.Idx → BitVec 32} {q : ℕ} (hqg : q / 128 ≠ g) (old : Done tab X3 X q) : Done tab X3 (upd (i 0).val g X3 X4 X) q := by
  intro a l hl
  unfold upd
  rw [dif_neg (fun h => hqg (by rw [← hl]; exact h.2))]
  exact old a l hl

/-- A trip keeps the invariant. -/
theorem Inside.step (hT : Tables X3 T1 T2) (hX4 : ∀ (b : Fin 96) (y : Fin 4096), 4096 * (i 0).val + y.val < 3000000 → X4 (ix2 b y) = tab b.val (4096 * (i 0).val + y.val))
    {g : BitVec 32} {s : BitVec 1} {X : S24x36864.Idx → BitVec 32} (h : Inside tab X3 (i 0).val g s X) (hc : goOn i T1 g s = 1#1) :
    Inside tab X3 (i 0).val (gNext i T2 g) (sNext i T2 g) (upd (i 0).val g.toNat X3 X4 X) := by
  have hg := h.lt i hT hc
  have hlast := hT.last g.toNat hg
  have hr := rowAt_lt X3 (128 * g.toNat + 127)
  have hbi := before_iff i (ent T2 g.toNat) (by rw [hlast]; omega)
  rw [hlast] at hbi
  have zeros : Zeros (upd (i 0).val g.toNat X3 X4 X) := by
    intro a l hl
    unfold upd
    rw [dif_neg (fun h => by have h2 : l.val / 128 = g.toNat := h.2; omega)]
    exact h.zeros a l hl
  have old : Ascend X3 → ∀ q, q < 35200 → rowAt X3 q < 4096 * (i 0).val → Done tab X3 (upd (i 0).val g.toNat X3 X4 X) q := by
    intro hA q hq hlt
    by_cases hqg : q / 128 = g.toNat
    · exact done_upd i hA hX4 hg hq hqg (by omega) (fun _ => h.old hA q hq hlt)
    · exact done_keep i hqg (h.old hA q hq hlt)
  have here : Ascend X3 → ∀ q, q < 35200 → q / 128 = g.toNat → rowAt X3 q < 4096 * ((i 0).val + 1) → Done tab X3 (upd (i 0).val g.toNat X3 X4 X) q :=
    fun hA q hq hqg hlt => done_upd i hA hX4 hg hq hqg hlt (fun hl => h.old hA q hq hl)
  have hb : before i (ent T2 g.toNat) = 0#1 ∨ before i (ent T2 g.toNat) = 1#1 := bit_cases _
  rcases hb with hb | hb
  · have eg : gNext i T2 g = g := by
      unfold gNext; rw [hb]; exact BitVec.add_zero g
    have hge : 4096 * ((i 0).val + 1) ≤ rowAt X3 (128 * g.toNat + 127) := by
      rcases Nat.lt_or_ge (rowAt X3 (128 * g.toNat + 127) / 128) (32 * (i 0).val + 32) with hx | hx
      · exact absurd (hbi.mpr hx) (by rw [hb]; decide)
      · omega
    rw [eg]
    exact ⟨h.le, zeros, old, fun hA q hq hqg => ⟨(h.met hA q hq hqg).1, done_keep i (by omega) (h.met hA q hq hqg).2⟩, fun _ => here, fun _ => ⟨hg, hge⟩⟩
  · have eg : (gNext i T2 g).toNat = g.toNat + 1 := by
      unfold gNext; rw [hb]
      show (g + 1#32).toNat = _
      rw [BitVec.toNat_add]; simp only [BitVec.toNat_ofNat]; omega
    have es : sNext i T2 g = 0#1 := by unfold sNext; rw [hb]; decide
    have hlt : rowAt X3 (128 * g.toNat + 127) < 4096 * ((i 0).val + 1) := by
      have := hbi.mp hb; omega
    refine ⟨by omega, zeros, old, fun hA q hq hqg => ?_, fun h1 => absurd (es.symm.trans h1) (by decide), fun h1 => absurd (es.symm.trans h1) (by decide)⟩
    by_cases hq' : q / 128 = g.toNat
    · have hm := hA.mono q (128 * g.toNat + 127) (by omega) (by omega)
      exact ⟨by omega, here hA q hq hq' (by omega)⟩
    · have := h.met hA q hq (by omega)
      exact ⟨this.1, done_keep i hq' this.2⟩

/-- Entering a chunk. -/
theorem Between.enter {g : BitVec 32} {X : S24x36864.Idx → BitVec 32} (h : Between tab X3 (i 0).val g.toNat X) : Inside tab X3 (i 0).val g 0#1 X :=
  ⟨h.le, h.zeros, h.done, fun hA q hq hqg => ⟨by have := h.met hA q hq hqg; omega, h.done hA q hq (h.met hA q hq hqg)⟩,
    fun h1 => absurd h1 (by decide), fun h1 => absurd h1 (by decide)⟩

/-- Leaving a chunk, the loop's condition false. -/
theorem Inside.leave (hT : Tables X3 T1 T2) {g : BitVec 32} {s : BitVec 1} {X : S24x36864.Idx → BitVec 32} (h : Inside tab X3 (i 0).val g s X)
    (hc : ¬ goOn i T1 g s = 1#1) : Between tab X3 ((i 0).val + 1) g.toNat X := by
  refine ⟨h.le, h.zeros, fun hA q hq hqg => (h.met hA q hq hqg).1, fun hA q hq hlt => ?_⟩
  by_cases hqg : q / 128 < g.toNat
  · exact (h.met hA q hq hqg).2
  have hs := bit_cases s
  rcases hs with hs | hs
  · exfalso
    have hg : g.toNat < 275 := by omega
    have hf := hT.first g.toNat hg
    have hr := rowAt_lt X3 (128 * g.toNat)
    have hb : ¬ before i (ent T1 g.toNat) = 1#1 := fun hb => hc ((goOn_iff _ _).mpr ⟨hs, hb⟩)
    rw [before_iff i _ (by rw [hf]; omega), hf] at hb
    have := hA.mono (128 * g.toNat) q (by omega) hq
    omega
  · by_cases hq' : q / 128 = g.toNat
    · exact h.here hs hA q hq hq' hlt
    · exfalso
      have := (h.over hs).2
      have := hA.mono (128 * g.toNat + 127) q (by omega) hq
      omega

/-- Before the first chunk all columns are zero. -/
theorem Between.start {X : S24x36864.Idx → BitVec 32} (h : ∀ y, X y = 0#32) : Between tab X3 0 0 X :=
  ⟨by omega, fun a l _ => h _, fun _ q _ hq => absurd hq (by omega), fun _ q _ hq => absurd hq (by omega)⟩

end Cert.Codes.Gen

end
-- ==== Proof.C.Body.lean ====
/-
The kernel's body at one chunk, run: the first chunk clears the columns and starts at group 0, and every chunk's loop
starts at the group where the one before stopped.
-/
module

public import proofs.«01_k».proof.Proof.C.Invariant
public import proofs.«01_k».proof.Proof.Gen.Codes.Loops

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

/-- The group at which the next chunk's loop starts, as the scratch cell holds it. -/
abbrev word6 (c : Dev nD) (arg6 : Memref sig .tc .smem S1 .i32) (f6 : Buf (Elt F) (arg6.view.loc (c : Thread nD τ))) : BitVec 32 :=
  View.readAt (Elt F) arg6.view (Rect.unit (s := S1) ![0] S1.size inb_S1_S1_0).toLoadRect f6 (Shape.Idx.first (Nat.lt_of_lt_of_eq Nat.zero_lt_one numel1_S1.symm))

theorem word6_writes (c : Dev nD) (arg6 : Memref sig .tc .smem S1 .i32) (f6 : Buf (Elt F) (arg6.view.loc (c : Thread nD τ))) (v : BitVec 32) :
    word6 c arg6 (arg6.view.writes (Elt F) f6 [⟨Rect.unit (s := S1) ![0] S1.size inb_S1_S1_0, fun _ => v⟩]) = v := by
  unfold word6
  rw [View.readAt_unit arg6.view _ inb_S1_S1_0 rfl inb_S1_S1_0]
  exact View.read_writes_cons_unit_of_mem (size := S1.size) arg6.view f6 inb_S1_S1_0 (fun _ => v) [] _ (Shape.Idx.first (Nat.lt_of_lt_of_eq Nat.zero_lt_one numel1_S1.symm)) rfl
    (fun a => by match a with | ⟨0, _⟩ => rfl)

set_option maxHeartbeats 1000000 in
/-- The loop called at the group the scratch cell names, and the group where it stops stored there. -/
theorem tail_run (c : Dev nD) (E : Set ℕ) (i : grid0.Coords) (arg1 : Memref sig .tc .smem S283 .i32) (harg1 : arg1.IsWhole) (arg2 : Memref sig .tc .smem S283 .i32) (harg2 : arg2.IsWhole) (arg3 : Memref sig .tc .vmem S275x1x128 .i32) (harg3 : arg3.IsWhole) (arg4 : Memref sig .tc .vmem S96x4096 .i8) (harg4 : arg4.IsWhole) (arg5 : Memref sig .tc .vmem S24x36864 .i32) (harg5 : arg5.IsWhole) (arg6 : Memref sig .tc .smem S1 .i32) (harg6 : arg6.IsWhole)
    (t1 : Buf (Elt F) (arg1.view.loc (c : Thread nD τ))) (t2 : Buf (Elt F) (arg2.view.loc (c : Thread nD τ))) (q : PosShare TreeShare)
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ)))
    (tab : ℕ → ℕ → BitVec 8) (hT : Tables (arg3.view.read (Elt F) f3) (arg1.view.read (Elt F) t1) (arg2.view.read (Elt F) t2))
    (hX4 : ∀ (b : Fin 96) (y : Fin 4096), 4096 * (i 0).val + y.val < 3000000 → (arg4.view.read (Elt F) f4 : S96x4096.Idx → BitVec 8) (ix2 b y) = tab b.val (4096 * (i 0).val + y.val))
    (g : BitVec 32) (hB : Between tab (arg3.view.read (Elt F) f3) (i 0).val g.toNat (arg5.view.read (Elt F) f5)) (K : PUnit → sProp 𝕄) :
      iprop(held c arg1 arg2 arg3 arg4 arg5 t1 t2 q f3 f4 f5 ∗ (arg6.view.loc (c : Thread nD τ) ↦[arg6.view.set]{fullShare} f6)
        ∗ (∀ (f5' : Buf (Elt F) (arg5.view.loc (c : Thread nD τ))) (f6' : Buf (Elt F) (arg6.view.loc (c : Thread nD τ))),
            ⌜Between tab (arg3.view.read (Elt F) f3) ((i 0).val + 1) (word6 c arg6 f6').toNat (arg5.view.read (Elt F) f5')⌝
              -∗ held c arg1 arg2 arg3 arg4 arg5 t1 t2 q f3 f4 f5' -∗ (arg6.view.loc (c : Thread nD τ) ↦[arg6.view.set]{fullShare} f6') -∗ K ⟨⟩))
      ⊢ wp frame (wpE (defs₀ (F := F)) Variants.nat (c : Thread nD τ) none) E
          (.op (.call (1 : (Λ₀ F).Label) ⟨i, arg1, harg1, arg3, harg3, arg5, harg5, arg4, harg4, arg2, harg2, g, 0#1⟩) fun x =>
            match x with
            | (v5_0, v5_1) => do
              let _ ← smemLoad arg6 (Rect.unit (s := S1) ![0] S1.size inb_S1_S1_0) numel1_S1 rfl
              Prog.lift (.store arg6 (Rect.unit (s := S1) ![0] S1.size inb_S1_S1_0) (fun _ => v5_0) Finset.univ (View.stores_smem_one rfl numel1_S1) (.inl rfl))
              pure ⟨⟩) K := by
  iintro ⟨H, H6, HK⟩
  iapply (wp_call Variants.nat (c : Thread nD τ) none E (togo g 0#1) (fun u hu => nomatch hu))
  iapply (while_run c E i arg1 harg1 arg3 harg3 arg5 harg5 arg4 harg4 arg2 harg2 t1 t2 q f3 f4
    (Inside tab (arg3.view.read (Elt F) f3) (i 0).val) (fun g s X h => h.le) (fun g s X h hc => h.lt i hT hc) (fun g s X h hc => h.step i hT hX4 hc)
    (togo g 0#1) g 0#1 f5 (hB.enter i) le_rfl _)
  isplitl [H]; · iexact H
  iintro %g' %s' %f5' %hI ⟨H1, H2, H3, H4, H5⟩
  have hB' := hI.1.leave i hT hI.2
  sl_exec
  rw [wp_ret]; imodintro
  iapply HK $$ %_ %_ %_ [H1 H2 H3 H4 H5] H6
  · exact (word6_writes (F := F) c arg6 f6 g').symm ▸ hB'
  isplitl [H1]; · iexact H1
  isplitl [H2]; · iexact H2
  isplitl [H3]; · iexact H3
  isplitl [H4]; · iexact H4
  iexact H5

/-- The clearing loop's pieces: each trip stores zeros over the next 1024 columns. -/
theorem clear_piece (c : Dev nD) (i : grid0.Coords) (arg1 : Memref sig .tc .smem S283 .i32) (harg1 : arg1.IsWhole) (arg2 : Memref sig .tc .smem S283 .i32) (harg2 : arg2.IsWhole) (arg3 : Memref sig .tc .vmem S275x1x128 .i32) (harg3 : arg3.IsWhole) (arg4 : Memref sig .tc .vmem S96x4096 .i8) (harg4 : arg4.IsWhole) (arg5 : Memref sig .tc .vmem S24x36864 .i32) (harg5 : arg5.IsWhole) (arg6 : Memref sig .tc .smem S1 .i32) (harg6 : arg6.IsWhole) (hc : k0_cond1 i = 1#1) (k : Fin k0_t1_loop.trips) :
    tripL_k0_t1 (F := F) Variants.nat c none i arg1 harg1 arg2 harg2 arg3 harg3 arg4 harg4 arg5 harg5 arg6 harg6 hc k
      = [⟨Rect.unit (s := S24x36864) (k0_off1 k) S24x1024.size (k0_off1_inb i k hc), k0_pay1⟩] := by
  unfold tripL_k0_t1 trip_k0_t1
  rfl

/-- After `n` trips of the clearing loop the first `1024 n` columns are zero. -/
theorem clear_read (c : Dev nD) (i : grid0.Coords) (arg1 : Memref sig .tc .smem S283 .i32) (harg1 : arg1.IsWhole) (arg2 : Memref sig .tc .smem S283 .i32) (harg2 : arg2.IsWhole) (arg3 : Memref sig .tc .vmem S275x1x128 .i32) (harg3 : arg3.IsWhole) (arg4 : Memref sig .tc .vmem S96x4096 .i8) (harg4 : arg4.IsWhole) (arg5 : Memref sig .tc .vmem S24x36864 .i32) (harg5 : arg5.IsWhole) (arg6 : Memref sig .tc .smem S1 .i32) (harg6 : arg6.IsWhole) (hc : k0_cond1 i = 1#1) (f5 : Buf (Elt F) (arg5.view.loc (c : Thread nD τ))) :
    ∀ n, n ≤ k0_t1_loop.trips → ∀ y : S24x36864.Idx, (y 1).val < 1024 * n →
      (arg5.view.read (Elt F) (arg5.view.writes (Elt F) f5 (pb_k0_t1 (F := F) Variants.nat c none i arg1 harg1 arg2 harg2 arg3 harg3 arg4 harg4 arg5 harg5 arg6 harg6 hc n)) : S24x36864.Idx → BitVec 32) y = 0#32 := by
  intro n
  induction n with
  | zero => intro _ y hy; omega
  | succ n ih =>
    intro hn y hy
    have e := pb_k0_t1_succ (F := F) Variants.nat c none i arg1 harg1 arg2 harg2 arg3 harg3 arg4 harg4 arg5 harg5 arg6 harg6 hc ⟨n, hn⟩
    rw [clear_piece] at e
    replace e : pb_k0_t1 (F := F) Variants.nat c none i arg1 harg1 arg2 harg2 arg3 harg3 arg4 harg4 arg5 harg5 arg6 harg6 hc (n + 1)
      = ⟨Rect.unit (s := S24x36864) (k0_off1 ⟨n, hn⟩) S24x1024.size (k0_off1_inb i ⟨n, hn⟩ hc), k0_pay1⟩
        :: pb_k0_t1 (F := F) Variants.nat c none i arg1 harg1 arg2 harg2 arg3 harg3 arg4 harg4 arg5 harg5 arg6 harg6 hc n := e
    rw [e]
    have l0 : (y 0).val < 24 := (y 0).isLt
    by_cases hlt : (y 1).val < 1024 * n
    · rw [View.read_writes_cons_unit_of_not_mem arg5.view f5 _ _ _ y (Gen.k0_off1_eq ⟨n, hn⟩) (1 : Fin 2) (.inl hlt)]
      exact ih (Nat.le_of_succ_le hn) y hlt
    · exact View.read_writes_cons_unit_of_mem (size := S24x1024.size) arg5.view f5 (k0_off1_inb i ⟨n, hn⟩ hc) k0_pay1 _ y
        (ix2 (⟨(y 0).val, l0⟩ : Fin 24) (⟨(y 1).val - 1024 * n, by omega⟩ : Fin 1024)) (Gen.k0_off1_eq ⟨n, hn⟩) (fun a => by
          match a with
          | ⟨0, _⟩ => show (y 0).val = 0 + (y 0).val; omega
          | ⟨1, _⟩ => show (y 1).val = 1024 * n + ((y 1).val - 1024 * n); omega)

theorem cond1_iff (i : grid0.Coords) : k0_cond1 i = 1#1 ↔ (i 0).val = 0 := by
  have hi : (i 0).val < 733 := (i 0).isLt
  unfold k0_cond1
  by_cases h : (i 0).val = 0
  · rw [h]; exact ⟨fun _ => rfl, fun _ => by decide⟩
  · have hne : BitVec.ofNat 32 (i 0).val ≠ 0#32 := fun e => h (by
      have := congrArg BitVec.toNat e
      rw [BitVec.toNat_ofNat, Nat.mod_eq_of_lt (by omega)] at this
      exact this)
    have e : Scalar.cmpi .eq (BitVec.ofNat 32 (i 0).val) 0#32 = 0#1 := by
      show BitVec.ofBool (BitVec.ofNat 32 (i 0).val == 0#32) = 0#1
      rw [beq_eq_false_iff_ne.mpr hne]; rfl
    simp only [e]
    exact ⟨fun k => absurd k (by decide), fun k => absurd k h⟩

set_option maxHeartbeats 1000000 in
/-- The body at chunk `i`: what held between chunks `i - 1` and `i` holds between `i` and `i + 1`. -/
theorem body_run (c : Dev nD) (E : Set ℕ) (i : grid0.Coords) (arg1 : Memref sig .tc .smem S283 .i32) (harg1 : arg1.IsWhole) (arg2 : Memref sig .tc .smem S283 .i32) (harg2 : arg2.IsWhole) (arg3 : Memref sig .tc .vmem S275x1x128 .i32) (harg3 : arg3.IsWhole) (arg4 : Memref sig .tc .vmem S96x4096 .i8) (harg4 : arg4.IsWhole) (arg5 : Memref sig .tc .vmem S24x36864 .i32) (harg5 : arg5.IsWhole) (arg6 : Memref sig .tc .smem S1 .i32) (harg6 : arg6.IsWhole)
    (t1 : Buf (Elt F) (arg1.view.loc (c : Thread nD τ))) (t2 : Buf (Elt F) (arg2.view.loc (c : Thread nD τ))) (q : PosShare TreeShare)
    (f3 : Buf (Elt F) (arg3.view.loc (c : Thread nD τ))) (f4 : Buf (Elt F) (arg4.view.loc (c : Thread nD τ))) (f5 : Buf (Elt F) (arg5.view.loc (c : Thread nD τ)))
    (f6 : Buf (Elt F) (arg6.view.loc (c : Thread nD τ)))
    (tab : ℕ → ℕ → BitVec 8) (hT : Tables (arg3.view.read (Elt F) f3) (arg1.view.read (Elt F) t1) (arg2.view.read (Elt F) t2))
    (hX4 : ∀ (b : Fin 96) (y : Fin 4096), 4096 * (i 0).val + y.val < 3000000 → (arg4.view.read (Elt F) f4 : S96x4096.Idx → BitVec 8) (ix2 b y) = tab b.val (4096 * (i 0).val + y.val))
    (hB : (i 0).val ≠ 0 → Between tab (arg3.view.read (Elt F) f3) (i 0).val (word6 c arg6 f6).toNat (arg5.view.read (Elt F) f5)) (K : PUnit → sProp 𝕄) :
      iprop(held c arg1 arg2 arg3 arg4 arg5 t1 t2 q f3 f4 f5 ∗ (arg6.view.loc (c : Thread nD τ) ↦[arg6.view.set]{fullShare} f6)
        ∗ (∀ (f5' : Buf (Elt F) (arg5.view.loc (c : Thread nD τ))) (f6' : Buf (Elt F) (arg6.view.loc (c : Thread nD τ))),
            ⌜Between tab (arg3.view.read (Elt F) f3) ((i 0).val + 1) (word6 c arg6 f6').toNat (arg5.view.read (Elt F) f5')⌝
              -∗ held c arg1 arg2 arg3 arg4 arg5 t1 t2 q f3 f4 f5' -∗ (arg6.view.loc (c : Thread nD τ) ↦[arg6.view.set]{fullShare} f6') -∗ K ⟨⟩))
      ⊢ wp frame (wpE (defs₀ (F := F)) Variants.nat (c : Thread nD τ) none) E (cc0_tc_codes i arg1 harg1 arg2 harg2 arg3 harg3 arg4 harg4 arg5 harg5 arg6 harg6) K := by
  simp only [cc0_tc_codes_eq_skeleton]; unfold cc0_tc_codes_skel
  by_cases hc : k0_cond1 i = 1#1
  · have h0 := (cond1_iff i).mp hc
    iintro ⟨⟨H1, H2, H3, H4, H5⟩, H6, HK⟩
    sl_exec
    iapply (tail_run c E i arg1 harg1 arg2 harg2 arg3 harg3 arg4 harg4 arg5 harg5 arg6 harg6 t1 t2 q f3 f4 _ _ tab hT hX4 0#32
      (by rw [h0]; exact Between.start (fun y => clear_read c i arg1 harg1 arg2 harg2 arg3 harg3 arg4 harg4 arg5 harg5 arg6 harg6 hc f5 k0_t1_loop.trips le_rfl y (by
            have h1 : (y 1).val < 36864 := (y 1).isLt
            have h2 : k0_t1_loop.trips = 36 := by decide
            omega))) K)
    isplitl [H1 H2 H3 H4 H5]
    · isplitl [H1]; · iexact H1
      isplitl [H2]; · iexact H2
      isplitl [H3]; · iexact H3
      isplitl [H4]; · iexact H4
      iexact H5
    isplitl [H6]; · iexact H6
    iexact HK
  · have h0 := fun h => hc ((cond1_iff i).mpr h)
    iintro ⟨⟨H1, H2, H3, H4, H5⟩, H6, HK⟩
    sl_exec
    iapply (tail_run c E i arg1 harg1 arg2 harg2 arg3 harg3 arg4 harg4 arg5 harg5 arg6 harg6 t1 t2 q f3 f4 f5 f6 tab hT hX4 _ (hB h0) K)
    isplitl [H1 H2 H3 H4 H5]
    · isplitl [H1]; · iexact H1
      isplitl [H2]; · iexact H2
      isplitl [H3]; · iexact H3
      isplitl [H4]; · iexact H4
      iexact H5
    isplitl [H6]; · iexact H6
    iexact HK

end Cert.Codes.Gen

end
-- ==== Proof.C.Host.lean ====
/- What the code-gathering call finds: the row numbers with the last repeated, each group's first and last tile, and the
table transposed. -/
module

public import proofs.«01_k».proof.Proof.C.Invariant
public import proofs.«01_k».proof.Proof.Gen.Codes.Launch
public import Idealize.ShloMosaic.Lib.Pipeline.Frame
public import Idealize.ShloMosaic.Lib.StableHlo.RunHlo
public import Idealize.ShloMosaic.Lib.Claim

@[expose] public section

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

variable (m : (ℓ : Loc nD τ sig) → Buf (Elt F) ℓ)

/-- Core `c`'s buffers when the region is entered: after the host operations before it. -/
abbrev V0 (c : Dev nD) : Valuation τ sig (Elt F) := StableHlo.after (List.flatten [hostOps0, hostOps0_1, hostOps0_2]) (fun b => m (c, b))
abbrev V (c : Dev nD) (b : Ref sig .tc) : Buf (Elt F) ((c : Thread nD τ).loc b) := V0 m c (Proc.devRef .tc b)

theorem V_split (c : Dev nD) : V0 m c = StableHlo.after hostOps0_2 (StableHlo.after hostOps0_1 (StableHlo.after hostOps0 (fun b => m (c, b)))) := by
  show StableHlo.after (hostOps0 ++ (hostOps0_1 ++ (hostOps0_2 ++ []))) _ = _
  rw [List.append_nil, StableHlo.after_append, StableHlo.after_append]

/-- The row numbers with the last repeated up to 35200. -/
abbrev padded (x : S35108.Idx → BitVec 32) : S35200.Idx → BitVec 32 :=
  concatenate S35200 0 [⟨S0, shapeCast S0 (broadcastInDim S1x0 ![0] bcast_S1_S1x0_0 (extractStridedSlice S1 ![0] x slices_S35108_S1_0)) shapeCasts_S1x0_S0⟩, ⟨S35108, x⟩,
    ⟨S92, shapeCast S92 (broadcastInDim S1x92 ![0] bcast_S1_S1x92_0 (extractStridedSlice S1 ![35107] x slices_S35108_S1_35107)) shapeCasts_S1x92_S92⟩] concatenates_S0_S35108_S92_S35200_d0

/-- The same in groups of 128. -/
abbrev grouped (x : S35108.Idx → BitVec 32) : S275x1x128.Idx → BitVec 32 := shapeCast S275x1x128 (padded x) shapeCasts_S35200_S275x1x128

/-- The tiles of one column of the groups, then eight large numbers. -/
abbrev tiles (y : S275x1x1.Idx → BitVec 32) : S283.Idx → BitVec 32 :=
  concatenate S283 0 [⟨S275, Host.shrui (shapeCast S275 y shapeCasts_S275x1x1_S275) (broadcastInDim S275 ![] bcast_S_S275 (constantI S_ 32 7#32))⟩,
    ⟨S8, broadcastInDim S8 ![] bcast_S_S8 (constantI S_ 32 1073741824#32)⟩] concatenates_S275_S8_S283_d0

theorem pad_v0 (W : Valuation τ sig (Elt F)) : StableHlo.after hostOps0_1 W main_v0 = padded (W main_arg0) := by
  simp only [hostOps0_1]
  after_results
  rfl
theorem pad_arg1 (W : Valuation τ sig (Elt F)) : StableHlo.after hostOps0_1 W main_arg1 = W main_arg1 := by
  simp only [hostOps0_1]
  after_results
theorem pad_arg0 (W : Valuation τ sig (Elt F)) : StableHlo.after hostOps0_1 W main_arg0 = W main_arg0 := by
  simp only [hostOps0_1]
  after_results
theorem first_arg0 (c : Dev nD) : StableHlo.after hostOps0 (fun b => m (c, b)) main_arg0 = m ((c : Thread nD τ).loc main_arg0) := by
  simp only [hostOps0]
  after_results
theorem first_arg1 (c : Dev nD) : StableHlo.after hostOps0 (fun b => m (c, b)) main_arg1 = m ((c : Thread nD τ).loc main_arg1) := by
  simp only [hostOps0]
  after_results
theorem last_arg0 (W : Valuation τ sig (Elt F)) : StableHlo.after hostOps0_2 W main_arg0 = W main_arg0 := by
  simp only [hostOps0_2]
  after_results
theorem last_arg1 (W : Valuation τ sig (Elt F)) : StableHlo.after hostOps0_2 W main_arg1 = W main_arg1 := by
  simp only [hostOps0_2]
  after_results
theorem last_v13 (W : Valuation τ sig (Elt F)) : StableHlo.after hostOps0_2 W main_v13
    = transpose S96x3000000 [1, 0] (W main_arg1) transposes_S3000000x96_S96x3000000_1_0 := by
  simp only [hostOps0_2]
  after_results
theorem last_v1 (W : Valuation τ sig (Elt F)) : StableHlo.after hostOps0_2 W main_v1
    = shapeCast S275x1x128 (W main_v0) shapeCasts_S35200_S275x1x128 := by
  simp only [hostOps0_2]
  after_results
  rfl
theorem last_v7 (W : Valuation τ sig (Elt F)) : StableHlo.after hostOps0_2 W main_v7
    = tiles (extractStridedSlice S275x1x1 ![0, 0, 0] (shapeCast S275x1x128 (W main_v0) shapeCasts_S35200_S275x1x128) slices_S275x1x128_S275x1x1_0_0_0) := by
  simp only [hostOps0_2]
  after_results
  rfl
theorem last_v12 (W : Valuation τ sig (Elt F)) : StableHlo.after hostOps0_2 W main_v12
    = tiles (extractStridedSlice S275x1x1 ![0, 0, 127] (shapeCast S275x1x128 (W main_v0) shapeCasts_S35200_S275x1x128) slices_S275x1x128_S275x1x1_0_0_127) := by
  simp only [hostOps0_2]
  after_results
  rfl

abbrev rows (c : Dev nD) : S35108.Idx → BitVec 32 := m ((c : Thread nD τ).loc main_arg0)

theorem V_arg0 (c : Dev nD) : V m c main_arg0 = m ((c : Thread nD τ).loc main_arg0) := by
  unfold V; rw [V_split, last_arg0, pad_arg0, first_arg0]
theorem V_arg1 (c : Dev nD) : V m c main_arg1 = m ((c : Thread nD τ).loc main_arg1) := by
  unfold V; rw [V_split, last_arg1, pad_arg1, first_arg1]
theorem V_v1 (c : Dev nD) : V m c main_v1 = grouped (rows m c) := by
  unfold V; rw [V_split, last_v1, pad_v0, first_arg0]
theorem V_v7 (c : Dev nD) : V m c main_v7 = tiles (extractStridedSlice S275x1x1 ![0, 0, 0] (grouped (rows m c)) slices_S275x1x128_S275x1x1_0_0_0) := by
  unfold V; rw [V_split, last_v7, pad_v0, first_arg0]
theorem V_v12 (c : Dev nD) : V m c main_v12 = tiles (extractStridedSlice S275x1x1 ![0, 0, 127] (grouped (rows m c)) slices_S275x1x128_S275x1x1_0_0_127) := by
  unfold V; rw [V_split, last_v12, pad_v0, first_arg0]
theorem V_v13 (c : Dev nD) : V m c main_v13 = transpose S96x3000000 [1, 0] (m ((c : Thread nD τ).loc main_arg1)) transposes_S3000000x96_S96x3000000_1_0 := by
  unfold V; rw [V_split, last_v13, pad_arg1, first_arg1]
end Cert.Codes.Gen
-- ==== Proof.C.Rows.lean ====
/-
The row numbers, the tiles and the table as the code-gathering call finds them, element by element.
-/
module

public import proofs.«01_k».proof.Proof.C.Host

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (UR sig nD τ) ℕ

theorem ix1_val (i : S35200.Idx) : i = ix1 (⟨(i 0).val, (i 0).isLt⟩ : Fin 35200) := by
  funext a
  match a with
  | ⟨0, _⟩ => rfl

/-- The row asked for at `q`: past the last one asked for, the last again. -/
abbrev clampIx (q : ℕ) : S35108.Idx := ix1 (⟨min q 35107, by omega⟩ : Fin 35108)

theorem padded_apply (x : S35108.Idx → BitVec 32) (q : Fin 35200) : padded x (ix1 q) = x (clampIx q.val) := by
  unfold padded
  by_cases h : q.val < 35108
  · refine (concatenate_apply_piece (t := S35200) 0 _ _ (ix1 q) 1 (by exact (show 1 < 3 by decide)) S35108 x rfl rfl 0 rfl (ix1 (⟨q.val, h⟩ : Fin 35108)) ?_ ?_).trans ?_
    · intro b hb
      match b with
      | ⟨0, _⟩ => exact absurd rfl hb
    · show 0 + q.val = q.val
      omega
    · exact congrArg x (congrArg ix1 (Fin.ext (by show q.val = min q.val 35107; omega)))
  · have hq := q.isLt
    refine (concatenate_apply_piece (t := S35200) 0 _ _ (ix1 q) 2 (by exact (show 2 < 3 by decide)) S92 _ rfl rfl 35108 rfl (ix1 (⟨q.val - 35108, by omega⟩ : Fin 92)) ?_ ?_).trans ?_
    · intro b hb
      match b with
      | ⟨0, _⟩ => exact absurd rfl hb
    · show 35108 + (q.val - 35108) = q.val
      omega
    · rw [shapeCast_apply (s := S1x92) (t := S92) _ shapeCasts_S1x92_S92 _ (ix2 (0 : Fin 1) (⟨q.val - 35108, by omega⟩ : Fin 92))
        (by rw [Shape.rowMajor_val_two, Shape.rowMajor_val_one]; show 0 * 92 + (q.val - 35108) = q.val - 35108; omega)]
      rw [broadcastInDim_apply (s := S1) (t := S1x92) _ bcast_S1_S1x92_0 _ _ (ix1 (0 : Fin 1)) (fun a => by
        match a with
        | ⟨0, _⟩ => rfl)]
      rw [extractStridedSlice_apply (s := S35108) (t := S1) ![35107] x slices_S35108_S1_35107 _ (ix1 (⟨35107, by omega⟩ : Fin 35108)) (fun a => by
        match a with
        | ⟨0, _⟩ => rfl)]
      exact congrArg x (congrArg ix1 (Fin.ext (by show 35107 = min q.val 35107; omega)))

theorem grouped_apply (x : S35108.Idx → BitVec 32) (g : Fin 275) (l : Fin 128) : grouped x (ix3 g (0 : Fin 1) l) = x (clampIx (128 * g.val + l.val)) := by
  have hg := g.isLt
  have hl := l.isLt
  unfold grouped
  rw [shapeCast_apply (s := S35200) (t := S275x1x128) _ shapeCasts_S35200_S275x1x128 _ (ix1 (⟨128 * g.val + l.val, by omega⟩ : Fin 35200))
    (by rw [Shape.rowMajor_val_three, Shape.rowMajor_val_one]; show 128 * g.val + l.val = (g.val * 1 + 0) * 128 + l.val; omega)]
  exact padded_apply x _

theorem rowAt_grouped (x : S35108.Idx → BitVec 32) (q : ℕ) (hq : q < 35200) : rowAt (grouped x) q = (x (clampIx q)).toNat := by
  unfold rowAt
  rw [dif_pos hq, grouped_apply]
  congr 3
  show 128 * (q / 128) + q % 128 = q
  omega

theorem shrui7 (w : BitVec 32) : (IntOp.shrui .host w 7#32).toNat = w.toNat / 128 := by
  show (if 7 < 32 then w >>> 7 else _ : BitVec 32).toNat = _
  rw [if_pos (by decide), BitVec.toNat_ushiftRight, Nat.shiftRight_eq_div_pow]

/-- The tiles of a column of the groups: the row numbers by 128. -/
theorem ent_tiles (y : S275x1x1.Idx → BitVec 32) (g : ℕ) (hg : g < 275) :
    (ent (tiles y) g).toNat = (y (ix3 (⟨g, hg⟩ : Fin 275) (0 : Fin 1) (0 : Fin 1))).toNat / 128 := by
  rw [ent_of (tiles y) g (by omega)]
  unfold tiles
  refine (congrArg BitVec.toNat (concatenate_apply_piece (t := S283) 0 _ _ _ 0 (by exact (show 0 < 2 by decide)) S275 _ rfl rfl 0 rfl (ix1 (⟨g, hg⟩ : Fin 275))
    (fun b hb => by
      match b with
      | ⟨0, _⟩ => exact absurd rfl hb)
    (by show 0 + g = g; omega))).trans ?_
  show (IntOp.shrui .host (shapeCast S275 y shapeCasts_S275x1x1_S275 (ix1 (⟨g, hg⟩ : Fin 275))) (broadcastInDim S275 ![] bcast_S_S275 (constantI S_ 32 7#32) (ix1 (⟨g, hg⟩ : Fin 275)))).toNat = _
  rw [shapeCast_apply (s := S275x1x1) (t := S275) y shapeCasts_S275x1x1_S275 _ (ix3 (⟨g, hg⟩ : Fin 275) (0 : Fin 1) (0 : Fin 1))
    (by rw [Shape.rowMajor_val_three, Shape.rowMajor_val_one]; show (g * 1 + 0) * 1 + 0 = g; omega)]
  exact shrui7 _

theorem ent_tiles_past (y : S275x1x1.Idx → BitVec 32) : (ent (tiles y) 275).toNat = 2 ^ 30 := by
  rw [ent_of (tiles y) 275 (by omega)]
  unfold tiles
  refine (congrArg BitVec.toNat (concatenate_apply_piece (t := S283) 0 _ _ _ 1 (by exact (show 1 < 2 by decide)) S8 _ rfl rfl 275 rfl (ix1 (⟨0, by omega⟩ : Fin 8))
    (fun b hb => by
      match b with
      | ⟨0, _⟩ => exact absurd rfl hb)
    (by show 275 + 0 = 275; omega))).trans ?_
  rfl

/-- The tables the call is given fit the row numbers it is given. -/
theorem tables (x : S35108.Idx → BitVec 32) : Tables (grouped x)
    (tiles (extractStridedSlice S275x1x1 ![0, 0, 0] (grouped x) slices_S275x1x128_S275x1x1_0_0_0))
    (tiles (extractStridedSlice S275x1x1 ![0, 0, 127] (grouped x) slices_S275x1x128_S275x1x1_0_0_127)) where
  first g hg := by
    rw [ent_tiles _ g hg, rowAt_grouped x _ (by omega)]
    rw [extractStridedSlice_apply (s := S275x1x128) (t := S275x1x1) ![0, 0, 0] _ slices_S275x1x128_S275x1x1_0_0_0 _ (ix3 (⟨g, hg⟩ : Fin 275) (0 : Fin 1) (0 : Fin 128)) (fun a => by
      match a with
      | ⟨0, _⟩ => exact (Nat.zero_add _).symm
      | ⟨1, _⟩ => rfl
      | ⟨2, _⟩ => rfl), grouped_apply]
    rfl
  last g hg := by
    rw [ent_tiles _ g hg, rowAt_grouped x _ (by omega)]
    rw [extractStridedSlice_apply (s := S275x1x128) (t := S275x1x1) ![0, 0, 127] _ slices_S275x1x128_S275x1x1_0_0_127 _ (ix3 (⟨g, hg⟩ : Fin 275) (0 : Fin 1) (127 : Fin 128)) (fun a => by
      match a with
      | ⟨0, _⟩ => exact (Nat.zero_add _).symm
      | ⟨1, _⟩ => rfl
      | ⟨2, _⟩ => rfl), grouped_apply]
    rfl
  past := ent_tiles_past _

/-- The table's code of column `b` of row `r`. -/
def codeAt (T : S3000000x96.Idx → BitVec 8) (b r : ℕ) : BitVec 8 := if h : r < 3000000 ∧ b < 96 then T (ix2 (⟨r, h.1⟩ : Fin 3000000) (⟨b, h.2⟩ : Fin 96)) else 0#8

theorem transposed_apply (T : S3000000x96.Idx → BitVec 8) (b : Fin 96) (r : Fin 3000000) :
    transpose S96x3000000 [1, 0] T transposes_S3000000x96_S96x3000000_1_0 (ix2 b r) = codeAt T b.val r.val := by
  unfold codeAt
  rw [dif_pos ⟨r.isLt, b.isLt⟩]
  exact transpose_apply [1, 0] T transposes_S3000000x96_S96x3000000_1_0 (ix2 b r) (ix2 r b) (fun a => by
    match a with
    | ⟨0, _⟩ => rfl
    | ⟨1, _⟩ => rfl)

end Cert.Codes.Gen

end
-- ==== Proof.C.Data.lean ====
/-
What the code-gathering call leaves at each chunk, as the pipeline's proof data: the row numbers and the table's chunk as
found; of the gathered words and of the scratch cell, what the chunks so far have established.
-/
module

public import proofs.«01_k».proof.Proof.C.Body
public import proofs.«01_k».proof.Proof.C.Rows
public import Idealize.ShloMosaic.Lib.Pipeline.FrameBody
public import Idealize.ShloMosaic.Lib.Pipeline.ArrRel

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The points of the grid -/

theorem coord0 (t : Fin grid0.N) : ((grid0.coords t) 0).val = t.val := by
  rw [Pipeline.Grid.coords_val t 0 (S := 1) (B := 733) (by decide) rfl, Nat.div_one]
  exact Nat.mod_eq_of_lt (N_0 ▸ t.isLt)

theorem at_chunk (t : Fin grid0.N) : cc0_transform_1 (grid0.coords t) = ![0, t.val] := by
  have ht : t.val < 733 := N_0 ▸ t.isLt
  have h := coord0 t
  funext a
  match a with
  | ⟨0, _⟩ => rfl
  | ⟨1, _⟩ =>
    show (BitVec.ofNat 32 ((grid0.coords t) 0).val).toNat = t.val
    rw [h, BitVec.toNat_ofNat, Nat.mod_eq_of_lt (by omega)]

/-- A cut block reaches as far as the array. -/
theorem extent_of (ix k d : ℕ) : (Pipeline.Clip.of ix k d).extent k = min k (d - ix * k) := by
  unfold Pipeline.Clip.of
  split
  · next h => show k = _; rw [Nat.succ_mul] at h; omega
  · next h => show d - ix * k = _; rw [Nat.succ_mul] at h; omega

theorem flush_last (t : Fin grid0.N) : Pipeline.Window.flushOf grid0 true cc0_transform_2 t = true ↔ t.val % 733 = 732 :=
  Pipeline.Window.flushOf_const cc0_transform_2 (fun _ _ => rfl) (n := 733) (by decide) rfl t

/-! ## The tables and the pipeline at them -/

abbrev tbl : (pre0).Contents (Elt F) := fun j => V m 0 (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Pipeline.Cfg sig (Λ₀ F) := cfg0 (adm m)

theorem PhiT0_eq (c : Dev nD) : (Pipeline.ΦT pre0 (tbl m) c : sProp 𝕄)
    = iprop(((Memref.whole main_v7).view.loc (c : Thread nD τ) ↦{fullShare.right} tbl m 0) ∗ ((Memref.whole main_v12).view.loc (c : Thread nD τ) ↦{fullShare.right} tbl m 1)) := by
  unfold Pipeline.ΦT Pipeline.prefHeld
  rw [show (Finset.univ : Finset (Fin 2)) = {(0 : Fin 2), (1 : Fin 2)} from by decide, bigSep_insert (by decide), bigSep_singleton]
  rfl

/-! ## The proof data -/

/-- The row numbers and the table, as the call is specified by them. -/
abbrev asked (c : Dev nD) : S275x1x128.Idx → BitVec 32 := grouped (rows m c)
abbrev tabOf (c : Dev nD) : ℕ → ℕ → BitVec 8 := codeAt (m ((c : Thread nD τ).loc main_arg1))

/-- The columns after the chunks before `n`. -/
def Cols (tab : ℕ → ℕ → BitVec 8) (X3 : S275x1x128.Idx → BitVec 32) (n : ℕ) (X : S24x36864.Idx → BitVec 32) : Prop :=
  Zeros X ∧ (Ascend X3 → ∀ q, q < 35200 → rowAt X3 q < 4096 * n → Done tab X3 X q)

/-- The group the loop has come to after the chunks before `n`. -/
def Reached (X3 : S275x1x128.Idx → BitVec 32) (n g : ℕ) : Prop :=
  g ≤ 275 ∧ (Ascend X3 → ∀ q, q < 35200 → q / 128 < g → rowAt X3 q < 4096 * n)

theorem between_iff (tab : ℕ → ℕ → BitVec 8) (X3 : S275x1x128.Idx → BitVec 32) (n g : ℕ) (X : S24x36864.Idx → BitVec 32) :
    Between tab X3 n g X ↔ Reached X3 n g ∧ Cols tab X3 n X :=
  ⟨fun h => ⟨⟨h.le, h.met⟩, h.zeros, h.done⟩, fun h => ⟨h.1.1, h.2.1, h.1.2, h.2.2⟩⟩

abbrev scr : Memref sig .tc .smem S1 .i32 := Memref.whole cc0_scratch0

/-- What the scratch cell holds before point `n`. -/
def Phi6 (c : Dev nD) (n : ℕ) : sProp 𝕄 :=
  iprop(∃ f6 : Buf (Elt F) (scr.view.loc (c : Thread nD τ)), ⌜n ≠ 0 → Reached (asked m c) n (word6 c scr f6).toNat⌝
    ∗ (scr.view.loc (c : Thread nD τ) ↦[scr.view.set]{fullShare} f6))

def rdat (c : Dev nD) : RDat τ (Elt F) Unit ℕ (UR sig nD τ) ℕ (cfgM m) c where
  A w := V m c (Pipeline.arrRef spec0 w)
  after w t Y X := match w with
    | ⟨0, _⟩ => X = Y
    | ⟨1, _⟩ => X = Y
    | ⟨2, _⟩ => Cols (tabOf m c) (asked m c) (t.val + 1) X
  Φ t := iprop(Phi6 m c t.val ∗ (∃ r, prngReg c r) ∗ Pipeline.ΦT pre0 (tbl m) c)
  q _ := fullShare
  owed _ := 0

theorem A_eq (c : Dev nD) (w : Fin (cfgM m).W) : (rdat m c).A w = V m c (Pipeline.arrRef spec0 w) := by
  dsimp only [rdat]

theorem share_full (c : Dev nD) (w : Fin (cfgM m).W) : (rdat m c).share w = fullShare := by
  unfold RDat.share; split <;> rfl

/-! ## What the body finds -/

variable (c : Dev nD)

/-- The row numbers, whole, at every point. -/
theorem finds0 (t : Fin (cfgM m).N) (Y) (h : (rdat m c).Finds 0 t Y) : (Y : S275x1x128.Idx → BitVec 32) = asked m c := by
  obtain ⟨d, rfl⟩ := (rdat m c).finds_in_eq_fetched 0 rfl (fun _ _ _ => rfl) (fun _ _ _ h => h) t Y h
  refine Eq.trans ?_ (V_v1 m c)
  refine funext (show ∀ x : S275x1x128.Idx, _ from fun x => ?_)
  refine congrArg (V m c main_v1) (funext fun k => Fin.ext ?_)
  match k with
  | ⟨0, _⟩ => show 0 * 275 + 1 * (x 0).val = (x 0).val; omega
  | ⟨1, _⟩ => show 0 * 1 + 1 * (x 1).val = (x 1).val; omega
  | ⟨2, _⟩ => show 0 * 128 + 1 * (x 2).val = (x 2).val; omega

/-- Chunk `t` of the table, as far as the table goes. -/
theorem finds1 (t : Fin (cfgM m).N) (Y) (h : (rdat m c).Finds 1 t Y) (b : Fin 96) (y : Fin 4096) (hy : 4096 * t.val + y.val < 3000000) :
    (Y : S96x4096.Idx → BitVec 8) (ix2 b y) = tabOf m c b.val (4096 * t.val + y.val) := by
  obtain ⟨d, rfl⟩ := (rdat m c).finds_in_eq_fetched 1 rfl
    (fun t t' h => funext fun a => congrArg (fun n => Pipeline.Clip.of n (S96x4096.size a) (S96x3000000.size a)) (congrFun h a)) (fun _ _ _ h => h) t Y h
  have hc := at_chunk t
  have hm : ((cfgM m).win 1).moved ((cfgM m).grid.coords t) (ix2 b y : S96x4096.Idx) = true := by
    refine (((cfgM m).win 1).moved_iff _ _).mpr fun a => ?_
    match a with
    | ⟨0, _⟩ =>
      show b.val < (Pipeline.Clip.of (cc0_transform_1 (grid0.coords t) 0) 96 96).extent 96
      rw [hc]
      exact b.isLt
    | ⟨1, _⟩ =>
      show y.val < (Pipeline.Clip.of (cc0_transform_1 (grid0.coords t) 1) 4096 3000000).extent 4096
      rw [hc]
      show y.val < (Pipeline.Clip.of t.val 4096 3000000).extent 4096
      have := extent_of t.val 4096 3000000
      have := y.isLt
      omega
  unfold RDat.fetched Pipeline.Window.fill
  rw [dif_pos hm]
  refine Eq.trans ?_ (transposed_apply (m ((c : Thread nD τ).loc main_arg1)) b ⟨4096 * t.val + y.val, hy⟩)
  refine Eq.trans ?_ (congrFun (V_v13 m c) _)
  refine congrArg (V m c main_v13) (funext fun k => Fin.ext ?_)
  match k with
  | ⟨0, _⟩ =>
    show cc0_transform_1 (grid0.coords t) 0 * 96 + 1 * b.val = b.val
    rw [hc]; show 0 * 96 + 1 * b.val = b.val; omega
  | ⟨1, _⟩ =>
    show cc0_transform_1 (grid0.coords t) 1 * 4096 + 1 * y.val = 4096 * t.val + y.val
    rw [hc]; show t.val * 4096 + 1 * y.val = _; omega

theorem fetch2 (t : Fin (cfgM m).N) : ((cfgM m).win 2).fetch t = false := rfl

/-- The columns as the previous chunk left them. -/
theorem finds2 (t : Fin (cfgM m).N) (ht : t.val ≠ 0) (Y) (h : (rdat m c).Finds 2 t Y) : Cols (tabOf m c) (asked m c) t.val Y := by
  have hlt : t.val < 733 := N_0 ▸ t.isLt
  rcases ((rdat m c).finds_of_pos (fetch2 m t) ht Y).mp h with hf | ⟨Y', -, hX⟩
  · have := (flush_last (⟨t.val - 1, by rw [N_0]; omega⟩ : Fin grid0.N)).mp hf
    simp only at this
    omega
  · have e : t.val - 1 + 1 = t.val := by omega
    have : Cols (tabOf m c) (asked m c) (t.val - 1 + 1) Y := hX
    rwa [e] at this

end Cert.Codes.Gen
-- ==== Proof.C.Frame.lean ====
/-
The code-gathering call run: the body's obligation at every chunk, the launch, the frame, and the gathered words at the end.
-/
module

public import proofs.«01_k».proof.Proof.C.Data

@[expose] public section

set_option maxRecDepth 16384

noncomputable section

namespace Cert.Codes.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's obligation -/

/-- The body at point `t`, on what the pipeline calls it with. -/
abbrev bodyAt0 (t : Fin (cfgM m).N) : Prog (TpuEff nD τ sig (Elt F) (Λ₀ F) .tc) PUnit :=
  cc0_tc_codes (grid0.coords t) (Memref.whole main_v7) (Memref.isWhole_whole _) (Memref.whole main_v12) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (spec0_2.stage ((cfgM m).slots t 2)) (hstage0_2 (((cfgM m).slots t 2).cast nbuf0_2))
    (Memref.whole cc0_scratch0) (Memref.isWhole_whole _)

theorem defs₀_row (t : Fin (cfgM m).N) :
    defs₀ (F := F) .tc (cfgM m).body ((cfgM m).bodyArgs t ((cfgM m).slots t)) = bodyAt0 m t := by
  unfold defs₀; rw [Defs.onTc_tc]

abbrev mem0 (t : Fin (cfgM m).N) := spec0_0.stage ((cfgM m).slots t 0)
abbrev mem1 (t : Fin (cfgM m).N) := spec0_1.stage ((cfgM m).slots t 1)
abbrev mem2 (t : Fin (cfgM m).N) := spec0_2.stage ((cfgM m).slots t 2)

theorem tables_ok (c : Dev nD) : Tables (asked m c) (tbl m 0) (tbl m 1) := by
  obtain rfl : c = 0 := Subsingleton.elim _ _
  have h := tables (rows m 0)
  rw [← V_v7 m 0, ← V_v12 m 0] at h
  exact h

set_option maxHeartbeats 1000000 in
theorem sound_body (c : Dev nD) (t : Fin (cfgM m).N) (Y0 : S275x1x128.Idx → BitVec 32) (Y1 : S96x4096.Idx → BitVec 8) (Y2 : S24x36864.Idx → BitVec 32)
    (h0 : (rdat m c).Finds 0 t Y0) (h1 : (rdat m c).Finds 1 t Y1) (h2 : (rdat m c).Finds 2 t Y2) :
    iprop((Phi6 m c t.val ∗ (∃ r, prngReg c r) ∗ Pipeline.ΦT pre0 (tbl m) c) ∗ (rdat m c).owesAt () t.castSucc
        ∗ owns (c : Thread nD τ) (mem0 m t) fullShare Y0 ∗ owns (c : Thread nD τ) (mem1 m t) fullShare Y1 ∗ owns (c : Thread nD τ) (mem2 m t) fullShare Y2)
      ⊢ wp frame (wpE (defs₀ (F := F)) Variants.nat (c : Thread nD τ) none) Set.univ (bodyAt0 m t) fun _ =>
        iprop((Phi6 m c (t.val + 1) ∗ (∃ r, prngReg c r) ∗ Pipeline.ΦT pre0 (tbl m) c) ∗ (rdat m c).owesAt () t.castSucc
          ∗ (∃ X, ⌜X = Y0⌝ ∗ owns (c : Thread nD τ) (mem0 m t) fullShare X) ∗ (∃ X, ⌜X = Y1⌝ ∗ owns (c : Thread nD τ) (mem1 m t) fullShare X)
          ∗ (∃ X, ⌜Cols (tabOf m c) (asked m c) (t.val + 1) X⌝ ∗ owns (c : Thread nD τ) (mem2 m t) fullShare X)) := by
  have e0 := finds0 m c t Y0 h0
  have e1 := finds1 m c t Y1 h1
  have hv := coord0 t
  unfold bodyAt0 owns Phi6
  rw [PhiT0_eq]
  iintro ⟨⟨⟨%f6, %hR, H6⟩, HP, ⟨HT1, HT2⟩⟩, Ho, ⟨%f3, %hf3, H3⟩, ⟨%f4, %hf4, H4⟩, ⟨%f5, %hf5, H5⟩⟩
  iapply (body_run c Set.univ (grid0.coords t) (Memref.whole main_v7) (Memref.isWhole_whole _) (Memref.whole main_v12) (Memref.isWhole_whole _)
    (mem0 m t) (hstage0_0 (((cfgM m).slots t 0).cast nbuf0_0)) (mem1 m t) (hstage0_1 (((cfgM m).slots t 1).cast nbuf0_1))
    (mem2 m t) (hstage0_2 (((cfgM m).slots t 2).cast nbuf0_2)) scr (Memref.isWhole_whole _)
    (tbl m 0) (tbl m 1) fullShare.right f3 f4 f5 f6 (tabOf m c)
    (by rw [hf3, e0]; exact tables_ok m c)
    (fun b y hy => by
      rw [hf4]
      rw [hv] at hy ⊢
      exact e1 b y hy)
    (fun hne => by
      rw [hv] at hne ⊢
      rw [hf3, hf5, e0]
      exact (between_iff _ _ _ _ _).mpr ⟨hR hne, finds2 m c t hne Y2 h2⟩) _)
  rw [hf3, e0, hv]
  isplitl [HT1 HT2 H3 H4 H5]
  · isplitl [HT1]; · iexact HT1
    isplitl [HT2]; · iexact HT2
    isplitl [H3]; · iexact H3
    isplitl [H4]; · iexact H4
    iexact H5
  isplitl [H6]; · iexact H6
  iintro %f5' %f6' %hB ⟨HT1, HT2, H3, H4, H5⟩ H6
  isplitl [H6 HP HT1 HT2]
  · isplitl [H6]
    · iexists f6'
      isplitr; · ipureintro; exact fun _ => ((between_iff _ _ _ _ _).mp hB).1
      iexact H6
    isplitl [HP]; · iexact HP
    isplitl [HT1]; · iexact HT1
    iexact HT2
  isplitl [Ho]; · iexact Ho
  isplitl [H3]
  · iexists Y0
    isplitr; · ipureintro; exact e0
    iexists f3
    isplitr; · ipureintro; exact hf3
    iexact H3
  isplitl [H4]
  · iexists Y1
    isplitr; · ipureintro; rfl
    iexists f4
    isplitr; · ipureintro; exact hf4
    iexact H4
  iexists _
  isplitr
  · ipureintro; exact ((between_iff _ _ _ _ _).mp hB).2
  iexists f5'
  isplitr; · ipureintro; rfl
  iexact H5

theorem body_obligation (c : Dev nD) : (rdat m c).BodyObligation (defs₀ (F := F)) Variants.nat () Set.univ := fun t Y hY => by
  rw [bigSep_W0, bigSep_W0, defs₀_row m]
  exact triple_restated (sound_body m c t (Y 0) (Y 1) (Y 2) (hY 0) (hY 1) (hY 2)) rfl .rfl fun _ => .rfl

/-! ## The launch -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

theorem enters (c : Dev nD) : iprop(Pipeline.ΦA spec0 c ∗ Pipeline.ΦT pre0 (tbl m) c) ⊢ (rdat m c).Φ 0 := by
  show _ ⊢ iprop(Phi6 m c 0 ∗ (∃ r, prngReg c r) ∗ Pipeline.ΦT pre0 (tbl m) c)
  unfold Pipeline.ΦA Phi6
  rw [scopedRest0_eq]
  iintro ⟨⟨⟨%f, Hf⟩, HP⟩, HT⟩
  isplitl [Hf]
  · iexists f
    isplitr; · ipureintro; exact fun h => absurd rfl h
    rw [(Memref.isWhole_whole cc0_scratch0).set_eq_univ]
    iexact Hf
  isplitl [HP]; · iexact HP
  iexact HT

theorem exits (c : Dev nD) : (rdat m c).Φ (Fin.last (cfgM m).N) ⊢ (Pipeline.ΦA spec0 c : sProp 𝕄) := by
  show iprop(Phi6 m c (Fin.last (cfgM m).N).val ∗ (∃ r, prngReg c r) ∗ Pipeline.ΦT pre0 (tbl m) c) ⊢ _
  unfold Pipeline.ΦA Phi6
  rw [scopedRest0_eq]
  iintro ⟨⟨%f, -, Hf⟩, HP, HT⟩
  isplitl [Hf]
  · iexists f
    rw [(Memref.isWhole_whole cc0_scratch0).set_eq_univ]
    iexact Hf
  iexact HP

set_option backward.isDefEq.respectTransparency.types false in
set_option maxHeartbeats 800000 in
theorem run_main : θ_run defs (onTc (τ := τ) (main (F := F))) (s₀ m ρ) (fun r =>
    Pipeline.RDat.FramePost ((Pipeline.pin pcfgs fun _ => adm m) 0) (fun c => rdat m c) (V m) r ∧ r.2.sem = fun _ => 0) :=
  Pipeline.RDat.θ_run_frameP_track (Q' := _) pcfgs (fun _ => adm m) (0 : Fin 1) launch0 defs₀ Variants.nat (fun c => rdat m c) m ρ main
    (hbody := body_obligation m) (hshare := share_full m) (howed := fun _ _ => rfl) (V := V m) (hmain := hmain m Variants.nat)
    (hA := A_eq m) (hpf := V_pre m) (hin := enters m) (hout := exits m) (hQ' := fun _ h => h)

/-! ## What it ends with -/

/-- The one write-back, at the last chunk, of the whole array. -/
theorem wholeAt : ((cfgM m).win 2).WholeAt (⟨732, by rw [N_0]; decide⟩ : Fin grid0.N) := by
  refine ⟨(flush_last _).mpr rfl, fun t h => Fin.ext ?_, fun a => ?_⟩
  · have h1 := (flush_last t).mp h
    have h2 : t.val < 733 := N_0 ▸ t.isLt
    show t.val = 732
    omega
  · match a with
    | ⟨0, _⟩ => exact ⟨rfl, rfl⟩
    | ⟨1, _⟩ => exact ⟨rfl, rfl⟩

theorem ends (c : Dev nD) (r : PUnit × MemSt nD τ sig (Elt F))
    (h : Pipeline.RDat.FramePost ((Pipeline.pin pcfgs fun _ => adm m) 0) (fun c => rdat m c) (V m) r) :
    Cols (tabOf m c) (asked m c) 733 (r.2.mem ((c.tc : Thread nD τ).loc main_v14)) := by
  obtain ⟨X, ⟨Y, -, hX⟩, hG⟩ := Pipeline.RDat.ArrAt.emb_eq_of_wholeAt (rd := rdat m c) ((h c).1 2) (wholeAt m)
  have hC : Cols (tabOf m c) (asked m c) 733 X := hX
  have e : (r.2.mem ((c.tc : Thread nD τ).loc main_v14) : S24x36864.Idx → BitVec 32) = X := funext fun j => hG j
  rw [e]; exact hC

theorem arg0_rest : main_arg0 ∈ Pipeline.restRefs sig spec0 := Pipeline.mem_restRefs_of main_arg0 (by decide) (by decide)
theorem arg1_rest : main_arg1 ∈ Pipeline.restRefs sig spec0 := Pipeline.mem_restRefs_of main_arg1 (by decide) (by decide)

theorem kept0 (c : Dev nD) (r : PUnit × MemSt nD τ sig (Elt F))
    (h : Pipeline.RDat.FramePost ((Pipeline.pin pcfgs fun _ => adm m) 0) (fun c => rdat m c) (V m) r) :
    r.2.mem ((c.tc : Thread nD τ).loc main_arg0) = m ((c.tc : Thread nD τ).loc main_arg0) :=
  ((h c).2 main_arg0 arg0_rest).trans (V_arg0 m c)
theorem kept1 (c : Dev nD) (r : PUnit × MemSt nD τ sig (Elt F))
    (h : Pipeline.RDat.FramePost ((Pipeline.pin pcfgs fun _ => adm m) 0) (fun c => rdat m c) (V m) r) :
    r.2.mem ((c.tc : Thread nD τ).loc main_arg1) = m ((c.tc : Thread nD τ).loc main_arg1) :=
  ((h c).2 main_arg1 arg1_rest).trans (V_arg1 m c)

/-- The arguments unchanged and the machine at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨kept0 m c r h.1, kept1 m c r h.1⟩, h.2⟩) (run_main m ρ)

/-- The gathered words: every column done when the rows asked for ascend. -/
theorem gathers (hA : ∀ c, Ascend (asked m c)) : θ_run defs (onTc (τ := τ) (main (F := F))) ⟨m, fun _ => 0, ρ⟩ (fun r => ∀ c : Dev nD,
      (Zeros (r.2.mem ((c.tc : Thread nD τ).loc main_v14)) ∧ ∀ q, q < 35200 → Done (tabOf m c) (asked m c) (r.2.mem ((c.tc : Thread nD τ).loc main_v14)) q)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    have hC := ends m c r h.1
    ⟨⟨hC.1, fun q hq => hC.2 (hA c) q hq (by have := (hA c).lt q hq; omega)⟩, kept0 m c r h.1, kept1 m c r h.1⟩) (run_main m ρ)

end Cert.Codes.Gen
-- ==== Proof.C.Ascends.lean ====
/-
What the precondition says of the row numbers: each is a row of the table, and none is below the one before it.
-/
module

public import proofs.«01_k».proof.Proof.C.Rows
public import proofs.«01_k».proof.Pre_rows_ascend

@[expose] public section

set_option maxRecDepth 16384

noncomputable section

namespace Cert.Pre_rows_ascend

open Idealize.ShloMosaic

instance facts : Facts where
  slices_S35108_S1_0 := by decide
  slices_S35108_S35107_0 := by decide
  concatenates_S1_S35107_S35108_d0 := by decide
  bcast_S_S35108 := by decide

end Cert.Pre_rows_ascend

namespace Cert.Codes.Gen

open Idealize.ShloMosaic
open Idealize.ShloMosaic.ValueIdx

variable {F : FTy → Type} [FloatOps F]

theorem and_one (c d : BitVec 1) : IntOp.andi c d = 1#1 ↔ c = 1#1 ∧ d = 1#1 := by revert c d; decide

theorem sle_one (a b : BitVec 32) : IntOp.cmpi .sle a b = 1#1 ↔ a.toInt ≤ b.toInt := by
  show BitVec.ofBool (a.sle b) = 1#1 ↔ _
  rw [← BitVec.sle_iff_toInt_le]
  cases a.sle b <;> decide

theorem slt_one (a b : BitVec 32) : IntOp.cmpi .slt a b = 1#1 ↔ a.toInt < b.toInt := by
  show BitVec.ofBool (a.slt b) = 1#1 ↔ _
  rw [← BitVec.slt_iff_toInt_lt]
  cases a.slt b <;> decide

theorem sge_one (a b : BitVec 32) : IntOp.cmpi .sge a b = 1#1 ↔ b.toInt ≤ a.toInt := sle_one b a

/-- The row asked for before the one at `k + 1`. -/
theorem before_apply (x : S35108.Idx → BitVec 32) (k : ℕ) (hk : k < 35107) :
    concatenate Pre_rows_ascend.S35108 0
      [⟨Pre_rows_ascend.S1, extractStridedSlice Pre_rows_ascend.S1 ![0] x Pre_rows_ascend.facts.slices_S35108_S1_0⟩,
        ⟨Pre_rows_ascend.S35107, extractStridedSlice Pre_rows_ascend.S35107 ![0] x Pre_rows_ascend.facts.slices_S35108_S35107_0⟩]
      Pre_rows_ascend.facts.concatenates_S1_S35107_S35108_d0 (ix1 (⟨k + 1, by omega⟩ : Fin 35108))
      = x (ix1 (⟨k, by omega⟩ : Fin 35108)) := by
  refine (concatenate_apply_piece (t := Pre_rows_ascend.S35108) 0 _ _ _ 1 (by exact (show 1 < 2 by decide)) Pre_rows_ascend.S35107 _ rfl rfl 1 rfl (ix1 (⟨k, hk⟩ : Fin 35107)) ?_ ?_).trans ?_
  · intro b hb
    match b with
    | ⟨0, _⟩ => exact absurd rfl hb
  · show 1 + k = k + 1
    omega
  · exact extractStridedSlice_apply (s := Pre_rows_ascend.S35108) (t := Pre_rows_ascend.S35107) ![0] x _ _ (ix1 (⟨k, by omega⟩ : Fin 35108)) (fun a => by
      match a with
      | ⟨0, _⟩ => exact (Nat.zero_add _).symm)

section
variable (x : S35108.Idx → BitVec 32) (T : S3000000x96.Idx → BitVec 8) (h : Pre_rows_ascend.fn (F := F) x T = fun _ => 1#1)
include h

theorem holds_at (i : S35108.Idx) : (0 ≤ (x i).toInt ∧ (x i).toInt < 3000000) ∧
    IntOp.cmpi .sle (concatenate Pre_rows_ascend.S35108 0
      [⟨Pre_rows_ascend.S1, extractStridedSlice Pre_rows_ascend.S1 ![0] x Pre_rows_ascend.facts.slices_S35108_S1_0⟩,
        ⟨Pre_rows_ascend.S35107, extractStridedSlice Pre_rows_ascend.S35107 ![0] x Pre_rows_ascend.facts.slices_S35108_S35107_0⟩]
      Pre_rows_ascend.facts.concatenates_S1_S35107_S35108_d0 i) (x i) = 1#1 := by
  have e := congrFun h i
  have e' : IntOp.andi (IntOp.andi (IntOp.cmpi .sge (x i) 0#32) (IntOp.cmpi .slt (x i) 3000000#32)) (IntOp.cmpi .sle _ (x i)) = 1#1 := e
  obtain ⟨e1, e2⟩ := (and_one _ _).1 e'
  obtain ⟨e3, e4⟩ := (and_one _ _).1 e1
  have e5 := (sge_one _ _).1 e3
  have e6 := (slt_one _ _).1 e4
  exact ⟨⟨e5, e6⟩, e2⟩

/-- A row number read as signed is the number, and below the table's rows. -/
theorem in_table (i : S35108.Idx) : (x i).toInt = ((x i).toNat : ℤ) ∧ (x i).toNat < 3000000 := by
  obtain ⟨h0, h1⟩ := (holds_at x T h i).1
  have hlt := (x i).isLt
  rw [BitVec.toInt_eq_toNat_cond] at h0 h1 ⊢
  split at h0 <;> rename_i hc
  · rw [if_pos hc] at h1 ⊢
    exact ⟨rfl, by omega⟩
  · omega

theorem step_le (k : ℕ) (hk : k < 35107) : (x (ix1 (⟨k, by omega⟩ : Fin 35108))).toNat ≤ (x (ix1 (⟨k + 1, by omega⟩ : Fin 35108))).toNat := by
  have e := (holds_at x T h (ix1 (⟨k + 1, by omega⟩ : Fin 35108))).2
  rw [before_apply x k hk] at e
  have e' := (sle_one _ _).1 e
  rw [(in_table x T h _).1, (in_table x T h _).1] at e'
  exact Int.ofNat_le.1 e'

theorem row_le (k : ℕ) (hk : k < 35108) (d : ℕ) (hd : k + d < 35108) :
    (x (ix1 (⟨k, hk⟩ : Fin 35108))).toNat ≤ (x (ix1 (⟨k + d, hd⟩ : Fin 35108))).toNat := by
  induction d with
  | zero => exact Nat.le_refl _
  | succ d ih => exact (ih (by omega)).trans (step_le x T h (k + d) (by omega))

/-- The rows asked for, padded, ascend and lie in the table. -/
theorem ascends : Ascend (grouped x) where
  mono q q' hle hq := by
    rw [rowAt_grouped x q (by omega), rowAt_grouped x q' hq]
    have hle' : min q 35107 ≤ min q' 35107 := by omega
    have e := row_le x T h (min q 35107) (by omega) (min q' 35107 - min q 35107) (by omega)
    refine e.trans (Nat.le_of_eq (congrArg (fun i => (x (ix1 i)).toNat) (Fin.ext ?_)))
    show min q 35107 + (min q' 35107 - min q 35107) = min q' 35107
    omega
  lt q hq := by
    rw [rowAt_grouped x q hq]
    exact (in_table x T h _).2

end

end Cert.Codes.Gen

end
-- ==== Proof.C.Gathered.lean ====
/-
The reference's words, element by element: a column is the row asked for, its bytes four to a word.
-/
module

public import proofs.«01_k».proof.Proof.C.Ascends
public import proofs.«01_k».proof.Proof.Gen.CodesReference.Read
public import Idealize.ShloMosaic.Lib.Routing.Ops
public import Idealize.ShloMosaic.Lib.BitcastConvert
public import Idealize.ShloMosaic.Lib.BitcastFour

@[expose] public section

set_option maxRecDepth 16384

noncomputable section

namespace Cert.Codes.Gen

open Idealize.ShloMosaic
open Idealize.ShloMosaic.ValueIdx

variable {F : FTy → Type} [FloatOps F]

/-- No row number in the table is counted from the table's end. -/
theorem start_apply (x : S35108.Idx → BitVec 32) (p : Fin 35108) (h0 : 0 ≤ (x (ix1 p)).toInt) :
    CodesReference.Read.val_main_v5 (F := F) x (ix2 p (0 : Fin 1)) = x (ix1 p) := by
  rw [CodesReference.Read.val_main_v5_apply, CodesReference.Read.val_main_v4_apply, CodesReference.Read.val_main_v1_apply,
    CodesReference.Read.val_main_v0_apply, CodesReference.Read.val_main_c_apply]
  have e : CodesReference.Read.idx_main_v5 (ix2 p (0 : Fin 1)) = ix1 p := by
    funext a
    match a with
    | ⟨0, _⟩ => rfl
  rw [e]
  unfold Scalar.select
  rw [if_neg]
  intro hc
  have := (slt_one _ _).1 hc
  have hz : (0#32 : BitVec 32).toInt = 0 := by decide
  omega

section
variable (x : S35108.Idx → BitVec 32) (T : S3000000x96.Idx → BitVec 8) (hx : ∀ i, (x i).toInt = ((x i).toNat : ℤ) ∧ (x i).toNat < 3000000)
include hx

theorem taken_apply (p : Fin 35108) (b : Fin 96) :
    CodesReference.Read.val_main_v6 (F := F) x T (ix2 p b) = codeAt T b.val (x (ix1 p)).toNat := by
  unfold CodesReference.Read.val_main_v6 codeAt
  rw [dif_pos ⟨(hx _).2, b.isLt⟩]
  exact Routing.gather_row CodesReference.gather_S3000000x96_S35108x1_S35108x96_1_0_n_n_0_1_196 rfl rfl rfl rfl rfl T _ p b ⟨(x (ix1 p)).toNat, (hx _).2⟩
    ((start_apply x p (by rw [(hx _).1]; exact Int.natCast_nonneg _)).trans (BitVec.eq_of_toNat_eq (by
      rw [BitVec.toNat_ofNat, Nat.mod_eq_of_lt (x (ix1 p)).isLt]))) (by decide)

theorem word_apply (p : Fin 35108) (a : Fin 24) :
    CodesReference.Read.val_main_v8 (F := F) x T (ix2 p a) = pack4 fun k => codeAt T (4 * a.val + k.val) (x (ix1 p)).toNat := by
  unfold CodesReference.Read.val_main_v8
  apply BitVec.eq_of_getLsbD_eq
  intro q hq
  rw [Host.bitcastConvertWiden_getLsbD _ _ _ _ _ q hq]
  refine Eq.trans ?_ (four_bytes_getLsbD (fun k : Fin 4 => codeAt T (4 * a.val + k.val) (x (ix1 p)).toNat) q hq).symm
  refine congrArg (fun w : BitVec 8 => w.getLsbD (q % 8)) ?_
  rw [CodesReference.Read.val_main_v7_apply]
  have hp := p.isLt
  have ha := a.isLt
  refine Eq.trans (congrArg (CodesReference.Read.val_main_v6 (F := F) x T) ?_) (taken_apply x T hx p ⟨4 * a.val + q / 8, by omega⟩)
  funext c
  match c with
  | ⟨0, _⟩ =>
    refine Fin.ext ?_
    show ((p.val * 24 + a.val) * 4 + q / 8) / 96 = p.val
    omega
  | ⟨1, _⟩ =>
    refine Fin.ext ?_
    show ((p.val * 24 + a.val) * 4 + q / 8) % 96 = 4 * a.val + q / 8
    omega

theorem column_apply (a : Fin 24) (p : Fin 35108) :
    CodesReference.Read.val_main_v9 (F := F) x T (ix2 a p) = pack4 fun k => codeAt T (4 * a.val + k.val) (x (ix1 p)).toNat := by
  rw [CodesReference.Read.val_main_v9_apply]
  refine Eq.trans (congrArg (CodesReference.Read.val_main_v8 (F := F) x T) ?_) (word_apply x T hx p a)
  funext c
  match c with
  | ⟨0, _⟩ => rfl
  | ⟨1, _⟩ => rfl

theorem reference_done (q : ℕ) (hq : q < 35200) : Done (codeAt T) (grouped x) (CodesReference.Read.val_main_v13 (F := F) x T) q := by
  intro a l hl
  rw [rowAt_grouped x q hq]
  unfold CodesReference.Read.val_main_v13
  by_cases h : q < 35108
  · refine (concatenate_apply_piece (t := S24x36864) 1 _ _ (ix2 a l) 0 (by exact (show 0 < 3 by decide)) CodesReference.S24x35108 _ rfl rfl 0 rfl (ix2 a (⟨q, h⟩ : Fin 35108)) ?_ ?_).trans ?_
    · intro b hb
      match b with
      | ⟨0, _⟩ => rfl
      | ⟨1, _⟩ => exact absurd rfl hb
    · show 0 + q = l.val
      omega
    · refine (column_apply x T hx a ⟨q, h⟩).trans ?_
      have e : (⟨q, h⟩ : Fin 35108) = ⟨min q 35107, by omega⟩ := Fin.ext (by show q = min q 35107; omega)
      rw [e]
  · refine (concatenate_apply_piece (t := S24x36864) 1 _ _ (ix2 a l) 1 (by exact (show 1 < 3 by decide)) CodesReference.S24x92 _ rfl rfl 35108 rfl (ix2 a (⟨q - 35108, by omega⟩ : Fin 92)) ?_ ?_).trans ?_
    · intro b hb
      match b with
      | ⟨0, _⟩ => rfl
      | ⟨1, _⟩ => exact absurd rfl hb
    · show 35108 + (q - 35108) = l.val
      omega
    · rw [CodesReference.Read.val_main_v11_apply, CodesReference.Read.val_main_v10_apply]
      refine Eq.trans (congrArg (CodesReference.Read.val_main_v9 (F := F) x T) ?_) (column_apply x T hx a ⟨min q 35107, by omega⟩)
      funext c
      match c with
      | ⟨0, _⟩ => rfl
      | ⟨1, _⟩ =>
        refine Fin.ext ?_
        show 35107 + 0 = min q 35107
        omega

end

theorem reference_zeros (x : S35108.Idx → BitVec 32) (T : S3000000x96.Idx → BitVec 8) : Zeros (CodesReference.Read.val_main_v13 (F := F) x T) := by
  intro a l hl
  have hlt := l.isLt
  unfold CodesReference.Read.val_main_v13
  refine (concatenate_apply_piece (t := S24x36864) 1 _ _ (ix2 a l) 2 (by exact (show 2 < 3 by decide)) CodesReference.S24x1664 _ rfl rfl 35200 rfl (ix2 a (⟨l.val - 35200, by omega⟩ : Fin 1664)) ?_ ?_).trans ?_
  · intro b hb
    match b with
    | ⟨0, _⟩ => rfl
    | ⟨1, _⟩ => exact absurd rfl hb
  · show 35200 + (l.val - 35200) = l.val
    omega
  · rw [CodesReference.Read.val_main_v12_apply, CodesReference.Read.val_main_c_1_apply]

/-- Every word of every column is said: two arrays of which the same is said are one. -/
theorem words_unique (tab : ℕ → ℕ → BitVec 8) (X3 : S275x1x128.Idx → BitVec 32) (X Y : S24x36864.Idx → BitVec 32)
    (hX : Zeros X ∧ ∀ q, q < 35200 → Done tab X3 X q) (hY : Zeros Y ∧ ∀ q, q < 35200 → Done tab X3 Y q) : X = Y := by
  refine funext (show ∀ i : S24x36864.Idx, X i = Y i from fun i => ?_)
  have e : i = ix2 (⟨(i 0).val, (i 0).isLt⟩ : Fin 24) (⟨(i 1).val, (i 1).isLt⟩ : Fin 36864) := by
    funext c
    match c with
    | ⟨0, _⟩ => rfl
    | ⟨1, _⟩ => rfl
  rw [e]
  by_cases h : (i 1).val < 35200
  · exact (hX.2 _ h _ _ rfl).trans (hY.2 _ h _ _ rfl).symm
  · exact (hX.1 _ _ (Nat.le_of_not_lt h)).trans (hY.1 _ _ (Nat.le_of_not_lt h)).symm

end Cert.Codes.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Codes
public import proofs.«01_k».proof.Proof.Gen.Codes.Skeleton
public import proofs.«01_k».proof.Proof.Gen.Codes.Launch
public import proofs.«01_k».proof.Proof.Gen.Codes.Loops
public import proofs.«01_k».proof.Proof.Gen.CodesReference
public import proofs.«01_k».proof.Proof.Gen.CodesReference.Run
public import proofs.«01_k».proof.Proof.Gen.CodesReference.Read
public import proofs.«01_k».proof.Proof.K.Frame
public import proofs.«01_k».proof.Proof.KI.Frame
public import proofs.«01_k».proof.Proof.Algebraic
public import proofs.«01_k».proof.Proof.C.Frame
public import proofs.«01_k».proof.Proof.C.Gathered

@[expose] public section

noncomputable section

namespace Cert.Proof

open Idealize.ShloMosaic Idealize.SL.Sem

/-- The reference's frame: its run read at the arguments; it declares no semaphore. -/
theorem frame_reference : Cert.quiescent_ReferenceIdeal := by
  intro m g _
  refine (θ_run Cert.ReferenceIdeal.defs _ _).mono (fun r h => ⟨fun c => ?_, sem_eq_zero_of_no_sems (by decide) r.2⟩)
    (Cert.ReferenceIdeal.Stages.run m g)
  obtain ⟨-, -, -, -, -, hk⟩ := h c
  exact hk

/-- The codes' reference: the same. -/
theorem frame_codes_reference (m : (ℓ : Loc CodesReference.nD CodesReference.τ CodesReference.sig) → Buf (Elt Bits) ℓ) (g : Dev CodesReference.nD → PrngReg) :
    θ_run CodesReference.defs (onTc (τ := CodesReference.τ) CodesReference.main) ⟨m, fun _ => 0, g⟩ (fun r =>
      (∀ c : Dev CodesReference.nD,
        r.2.mem ((c.tc : Thread CodesReference.nD CodesReference.τ).loc CodesReference.main_arg0) = m ((c.tc : Thread CodesReference.nD CodesReference.τ).loc CodesReference.main_arg0)
        ∧ r.2.mem ((c.tc : Thread CodesReference.nD CodesReference.τ).loc CodesReference.main_arg1) = m ((c.tc : Thread CodesReference.nD CodesReference.τ).loc CodesReference.main_arg1))
      ∧ r.2.sem = fun _ => 0) :=
  (θ_run CodesReference.defs _ _).mono (fun r h => ⟨fun c => (h c).2, sem_eq_zero_of_no_sems (by decide) r.2⟩)
    (CodesReference.Value.run m g)

/-- The gathered words are the reference's, bit for bit, where the rows ascend. -/
theorem bitexact_codes : Cert.bitexact_Codes_CodesReference_pre_rows_ascend := by
  intro m g m' g' hpre hagree
  have hx c := Codes.Gen.in_table (F := Bits) _ _ (hpre c)
  refine ⟨fun c => CodesReference.Read.val_main_v13 (F := Bits) (m ((c.tc : Thread Codes.nD Codes.τ).loc Codes.main_arg0)) (m ((c.tc : Thread Codes.nD Codes.τ).loc Codes.main_arg1)), ?_, ?_⟩
  · refine (θ_run Codes.defs _ _).mono (fun r h c => ⟨?_, (h c).2⟩)
      (Codes.Gen.gathers m g fun c => Codes.Gen.ascends (F := Bits) _ _ (hpre c))
    exact Codes.Gen.words_unique _ _ _ _ (h c).1
      ⟨Codes.Gen.reference_zeros _ _, fun q hq => Codes.Gen.reference_done _ _ (hx c) q hq⟩
  · refine (θ_run CodesReference.defs _ _).mono (fun r h c => ⟨?_, (h c).2⟩) (CodesReference.Value.run m' g')
    refine (h c).1.trans ?_
    rw [(hagree c).1, (hagree c).2]
    exact CodesReference.Read.val_main_v13_eq _ _

theorem claim : Cert.Claim :=
  ⟨Cert.Kernel.Gen.facts, Cert.KernelIdeal.Gen.facts, Cert.ReferenceIdeal.Gen.facts, Cert.Codes.Gen.facts, Cert.CodesReference.Gen.facts,
    Cert.Pre_rows_ascend.facts,
    fun m g _ => Cert.Kernel.Gen.frame m g trivial, fun m g _ => Cert.KernelIdeal.Gen.frame m g trivial, frame_reference,
    fun m g _ => Cert.Codes.Gen.frame m g, fun m g _ => Cert.Codes.Gen.frame m g,
    fun m g _ => frame_codes_reference m g, fun m g _ => frame_codes_reference m g,
    trivial, algebraic, bitexact_codes⟩

end Cert.Proof

end
